-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_q_finite_KernelIdeal [hPre_q_finite_KernelIdeal : Cert.Pre_q_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_q_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_q_finite_ReferenceIdeal [hPre_q_finite_ReferenceIdeal : Cert.Pre_q_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_q_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_q_finite_KernelIdeal [hKernelIdeal : Cert.KernelIdeal.Facts] [hPre_q_finite_KernelIdeal : Cert.Pre_q_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_q_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_q_finite_ReferenceIdeal [hReferenceIdeal : Cert.ReferenceIdeal.Facts] [hPre_q_finite_ReferenceIdeal : Cert.Pre_q_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_q_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "inv_wire" .bf16 0x41E2#16 ((254 / 9 : ℝ) : EReal)
  ∧ IdealRules.named_const.Statement Cert.KernelIdeal.κ "qs" .bf16 0x3B4D#16 (((Real.sqrt 128)⁻¹ * (9 / 254) : ℝ) : EReal)
  ∧ IdealRules.named_const.Statement Cert.KernelIdeal.κ "wire" .f32 0x3D112245#32 ((9 / 254 : ℝ) : EReal)

def algebraic_KernelIdeal_ReferenceIdeal_pre_q_finite_KernelIdeal [hKernelIdeal : Cert.KernelIdeal.Facts] [hReferenceIdeal : Cert.ReferenceIdeal.Facts] [hPre_q_finite_KernelIdeal : Cert.Pre_q_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_q_finite_KernelIdeal m →
    (∀ c : Dev Cert.KernelIdeal.nD,
      m ((c.tc : Thread Cert.KernelIdeal.nD Cert.KernelIdeal.τ).loc Cert.KernelIdeal.main_arg0) = Layout.block ⟨2, ![1024, 128]⟩ ⟨2, ![8192, 128]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 128]⟩ ⟨2, ![8192, 128]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 128]⟩ ⟨2, ![8192, 128]⟩ 0 8 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 128]⟩ ⟨2, ![8192, 128]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v35) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_q_finite_KernelIdeal : Cert.Pre_q_finite_KernelIdeal.Facts) (hPre_q_finite_ReferenceIdeal : Cert.Pre_q_finite_ReferenceIdeal.Facts),
    quiescent_Kernel (hKernel := hKernel)
    ∧ quiescent_KernelIdeal (hKernelIdeal := hKernelIdeal)
    ∧ quiescent_KernelIdeal_pre_q_finite_KernelIdeal (hKernelIdeal := hKernelIdeal) (hPre_q_finite_KernelIdeal := hPre_q_finite_KernelIdeal)
    ∧ quiescent_ReferenceIdeal (hReferenceIdeal := hReferenceIdeal)
    ∧ quiescent_ReferenceIdeal_pre_q_finite_ReferenceIdeal (hReferenceIdeal := hReferenceIdeal) (hPre_q_finite_ReferenceIdeal := hPre_q_finite_ReferenceIdeal)
    ∧ preserves_Kernel_KernelIdeal
    ∧ algebraic_KernelIdeal_ReferenceIdeal_pre_q_finite_KernelIdeal (hKernelIdeal := hKernelIdeal) (hReferenceIdeal := hReferenceIdeal) (hPre_q_finite_KernelIdeal := hPre_q_finite_KernelIdeal)
-- ==== Pre_q_finite_KernelIdeal.lean ====
abbrev S1024x128 : Shape := ⟨2, ![1024, 128]⟩
abbrev S_ : Shape := ⟨0, ![]⟩

class Facts : Prop where
  bitsLt_bf16_f32 : FTy.bits .bf16 < FTy.bits .f32
  bcast_S_S1024x128 : S_.BroadcastsInDim S1024x128 (![] : Fin 0 → Fin S1024x128.rank)

variable [Facts]

def fn {F : FTy → Type} [FloatOps F] (main_arg0 : FVec F S1024x128 .bf16) (main_arg1 : FVec F S1024x128 .bf16) (main_arg2 : FVec F S1024x128 .bf16) : IVec S1024x128 1 :=
  let main_v0 : FVec F S1024x128 .f32 := (extf .f32 · bitsLt_bf16_f32) main_arg0
  let main_v1 : FVec F S1024x128 .f32 := Host.absf main_v0
  let main_cst : FVec F S_ .f32 := constant S_ .f32 0x7F800000#32
  let main_v2 : FVec F S1024x128 .f32 := broadcastInDim S1024x128 ![] bcast_S_S1024x128 main_cst
  let main_v3 : IVec S1024x128 1 := cmpf .olt main_v1 main_v2
  main_v3
-- ==== Pre_q_finite_ReferenceIdeal.lean ====
abbrev S8192x128 : Shape := ⟨2, ![8192, 128]⟩
abbrev S_ : Shape := ⟨0, ![]⟩

class Facts : Prop where
  bitsLt_bf16_f32 : FTy.bits .bf16 < FTy.bits .f32
  bcast_S_S8192x128 : S_.BroadcastsInDim S8192x128 (![] : Fin 0 → Fin S8192x128.rank)

variable [Facts]

def fn {F : FTy → Type} [FloatOps F] (main_arg0 : FVec F S8192x128 .bf16) (main_arg1 : FVec F S8192x128 .bf16) (main_arg2 : FVec F S8192x128 .bf16) : IVec S8192x128 1 :=
  let main_v0 : FVec F S8192x128 .f32 := (extf .f32 · bitsLt_bf16_f32) main_arg0
  let main_v1 : FVec F S8192x128 .f32 := Host.absf main_v0
  let main_cst : FVec F S_ .f32 := constant S_ .f32 0x7F800000#32
  let main_v2 : FVec F S8192x128 .f32 := broadcastInDim S8192x128 ![] bcast_S_S8192x128 main_cst
  let main_v3 : IVec S8192x128 1 := cmpf .olt main_v1 main_v2
  main_v3
-- ==== Kernel.lean ====
abbrev S1024x128 : Shape := ⟨2, ![1024, 128]⟩
abbrev S5x2x1024x128 : Shape := ⟨4, ![5, 2, 1024, 128]⟩
abbrev S4x2 : Shape := ⟨2, ![4, 2]⟩
abbrev S_ : Shape := ⟨0, ![]⟩
abbrev S1x1x1024x128 : Shape := ⟨4, ![1, 1, 1024, 128]⟩
abbrev S1024x1 : Shape := ⟨2, ![1024, 1]⟩
abbrev S1x1 : Shape := ⟨2, ![1, 1]⟩
abbrev S1024x1024 : Shape := ⟨2, ![1024, 1024]⟩
abbrev S1024 : Shape := ⟨1, ![1024]⟩
abbrev S1x1x512x128 : Shape := ⟨4, ![1, 1, 512, 128]⟩
abbrev S512x128 : Shape := ⟨2, ![512, 128]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S1024x128, .bf16⟩
  | .hbm, ⟨1, _⟩ => ⟨S1024x128, .bf16⟩
  | .hbm, ⟨2, _⟩ => ⟨S1024x128, .bf16⟩
  | .hbm, ⟨3, _⟩ => ⟨S1024x128, .f32⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .f32⟩
  | .local _ .vmem, ⟨4, _⟩ => ⟨S5x2x1024x128, .i8⟩
  | .local _ .vmem, ⟨5, _⟩ => ⟨S5x2x1024x128, .i8⟩
  | _, _ => ⟨S1024x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c16_i32 : BitVec 32 := 16#32
  let v3 : BitVec 32 := Scalar.addi v2 c16_i32
  let c8_i32_0 : BitVec 32 := 8#32
  let v4 : BitVec 32 := Scalar.remsi v3 c8_i32_0
  let c4_i32 : BitVec 32 := 4#32
  let v5 : BitVec 1 := Scalar.cmpi .slt v4 c4_i32
  let c11_i32 : BitVec 32 := 11#32
  let v6 : BitVec 32 := Scalar.subi c11_i32 v4
  let v7 : BitVec 32 := Scalar.select v5 v4 v6
  let c1_i32_1 : BitVec 32 := 1#32
  let v8 : BitVec 32 := Scalar.subi v7 c1_i32_1
  let c16_i32_2 : BitVec 32 := 16#32
  let v9 : BitVec 32 := Scalar.addi v8 c16_i32_2
  let c8_i32_3 : BitVec 32 := 8#32
  let v10 : BitVec 32 := Scalar.remsi v9 c8_i32_3
  let c4_i32_4 : BitVec 32 := 4#32
  let v11 : BitVec 1 := Scalar.cmpi .slt v10 c4_i32_4
  let c11_i32_5 : BitVec 32 := 11#32
  let v12 : BitVec 32 := Scalar.subi c11_i32_5 v10
  let v13 : BitVec 32 := Scalar.select v11 v10 v12
  let c1_i32_12 : BitVec 32 := 1#32
  let v21 : BitVec 32 := Scalar.muli v13 c1_i32_12
  let v22 : BitVec 32 := Scalar.addi c0_i32 v21
  v22.toNat
def k0_dev2 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c16_i32 : BitVec 32 := 16#32
  let v3 : BitVec 32 := Scalar.addi v2 c16_i32
  let c8_i32_0 : BitVec 32 := 8#32
  let v4 : BitVec 32 := Scalar.remsi v3 c8_i32_0
  let c4_i32 : BitVec 32 := 4#32
  let v5 : BitVec 1 := Scalar.cmpi .slt v4 c4_i32
  let c11_i32 : BitVec 32 := 11#32
  let v6 : BitVec 32 := Scalar.subi c11_i32 v4
  let v7 : BitVec 32 := Scalar.select v5 v4 v6
  let c1_i32_6 : BitVec 32 := 1#32
  let v14 : BitVec 32 := Scalar.addi v7 c1_i32_6
  let c16_i32_7 : BitVec 32 := 16#32
  let v15 : BitVec 32 := Scalar.addi v14 c16_i32_7
  let c8_i32_8 : BitVec 32 := 8#32
  let v16 : BitVec 32 := Scalar.remsi v15 c8_i32_8
  let c4_i32_9 : BitVec 32 := 4#32
  let v17 : BitVec 1 := Scalar.cmpi .slt v16 c4_i32_9
  let c11_i32_10 : BitVec 32 := 11#32
  let v18 : BitVec 32 := Scalar.subi c11_i32_10 v16
  let v19 : BitVec 32 := Scalar.select v17 v16 v18
  let c1_i32_14 : BitVec 32 := 1#32
  let v23 : BitVec 32 := Scalar.muli v19 c1_i32_14
  let v24 : BitVec 32 := Scalar.addi c0_i32_15 v23
  v24.toNat
def k0_dev3 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c16_i32 : BitVec 32 := 16#32
  let v3 : BitVec 32 := Scalar.addi v2 c16_i32
  let c8_i32_0 : BitVec 32 := 8#32
  let v4 : BitVec 32 := Scalar.remsi v3 c8_i32_0
  let c4_i32 : BitVec 32 := 4#32
  let v5 : BitVec 1 := Scalar.cmpi .slt v4 c4_i32
  let c11_i32 : BitVec 32 := 11#32
  let v6 : BitVec 32 := Scalar.subi c11_i32 v4
  let v7 : BitVec 32 := Scalar.select v5 v4 v6
  let c1_i32_6 : BitVec 32 := 1#32
  let v14 : BitVec 32 := Scalar.addi v7 c1_i32_6
  let c16_i32_7 : BitVec 32 := 16#32
  let v15 : BitVec 32 := Scalar.addi v14 c16_i32_7
  let c8_i32_8 : BitVec 32 := 8#32
  let v16 : BitVec 32 := Scalar.remsi v15 c8_i32_8
  let c4_i32_9 : BitVec 32 := 4#32
  let v17 : BitVec 1 := Scalar.cmpi .slt v16 c4_i32_9
  let c11_i32_10 : BitVec 32 := 11#32
  let v18 : BitVec 32 := Scalar.subi c11_i32_10 v16
  let v19 : BitVec 32 := Scalar.select v17 v16 v18
  let c1_i32_52 : BitVec 32 := 1#32
  let v67 : BitVec 32 := Scalar.muli v19 c1_i32_52
  let v68 : BitVec 32 := Scalar.addi c0_i32_53 v67
  v68.toNat
def k0_dev4 (d0 : Dev nD) : Nat :=
  let c0_i32_67 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c16_i32 : BitVec 32 := 16#32
  let v3 : BitVec 32 := Scalar.addi v2 c16_i32
  let c8_i32_0 : BitVec 32 := 8#32
  let v4 : BitVec 32 := Scalar.remsi v3 c8_i32_0
  let c4_i32 : BitVec 32 := 4#32
  let v5 : BitVec 1 := Scalar.cmpi .slt v4 c4_i32
  let c11_i32 : BitVec 32 := 11#32
  let v6 : BitVec 32 := Scalar.subi c11_i32 v4
  let v7 : BitVec 32 := Scalar.select v5 v4 v6
  let c1_i32_1 : BitVec 32 := 1#32
  let v8 : BitVec 32 := Scalar.subi v7 c1_i32_1
  let c16_i32_2 : BitVec 32 := 16#32
  let v9 : BitVec 32 := Scalar.addi v8 c16_i32_2
  let c8_i32_3 : BitVec 32 := 8#32
  let v10 : BitVec 32 := Scalar.remsi v9 c8_i32_3
  let c4_i32_4 : BitVec 32 := 4#32
  let v11 : BitVec 1 := Scalar.cmpi .slt v10 c4_i32_4
  let c11_i32_5 : BitVec 32 := 11#32
  let v12 : BitVec 32 := Scalar.subi c11_i32_5 v10
  let v13 : BitVec 32 := Scalar.select v11 v10 v12
  let c1_i32_66 : BitVec 32 := 1#32
  let v77 : BitVec 32 := Scalar.muli v13 c1_i32_66
  let v78 : BitVec 32 := Scalar.addi c0_i32_67 v77
  v78.toNat
def k0_dev5 (d0 : Dev nD) : Nat :=
  let c0_i32_81 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c16_i32 : BitVec 32 := 16#32
  let v3 : BitVec 32 := Scalar.addi v2 c16_i32
  let c8_i32_0 : BitVec 32 := 8#32
  let v4 : BitVec 32 := Scalar.remsi v3 c8_i32_0
  let c4_i32 : BitVec 32 := 4#32
  let v5 : BitVec 1 := Scalar.cmpi .slt v4 c4_i32
  let c11_i32 : BitVec 32 := 11#32
  let v6 : BitVec 32 := Scalar.subi c11_i32 v4
  let v7 : BitVec 32 := Scalar.select v5 v4 v6
  let c1_i32_6 : BitVec 32 := 1#32
  let v14 : BitVec 32 := Scalar.addi v7 c1_i32_6
  let c16_i32_7 : BitVec 32 := 16#32
  let v15 : BitVec 32 := Scalar.addi v14 c16_i32_7
  let c8_i32_8 : BitVec 32 := 8#32
  let v16 : BitVec 32 := Scalar.remsi v15 c8_i32_8
  let c4_i32_9 : BitVec 32 := 4#32
  let v17 : BitVec 1 := Scalar.cmpi .slt v16 c4_i32_9
  let c11_i32_10 : BitVec 32 := 11#32
  let v18 : BitVec 32 := Scalar.subi c11_i32_10 v16
  let v19 : BitVec 32 := Scalar.select v17 v16 v18
  let c1_i32_80 : BitVec 32 := 1#32
  let v87 : BitVec 32 := Scalar.muli v19 c1_i32_80
  let v88 : BitVec 32 := Scalar.addi c0_i32_81 v87
  v88.toNat
def k0_dev6 (d0 : Dev nD) : Nat :=
  let c0_i32_95 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c16_i32 : BitVec 32 := 16#32
  let v3 : BitVec 32 := Scalar.addi v2 c16_i32
  let c8_i32_0 : BitVec 32 := 8#32
  let v4 : BitVec 32 := Scalar.remsi v3 c8_i32_0
  let c4_i32 : BitVec 32 := 4#32
  let v5 : BitVec 1 := Scalar.cmpi .slt v4 c4_i32
  let c11_i32 : BitVec 32 := 11#32
  let v6 : BitVec 32 := Scalar.subi c11_i32 v4
  let v7 : BitVec 32 := Scalar.select v5 v4 v6
  let c1_i32_1 : BitVec 32 := 1#32
  let v8 : BitVec 32 := Scalar.subi v7 c1_i32_1
  let c16_i32_2 : BitVec 32 := 16#32
  let v9 : BitVec 32 := Scalar.addi v8 c16_i32_2
  let c8_i32_3 : BitVec 32 := 8#32
  let v10 : BitVec 32 := Scalar.remsi v9 c8_i32_3
  let c4_i32_4 : BitVec 32 := 4#32
  let v11 : BitVec 1 := Scalar.cmpi .slt v10 c4_i32_4
  let c11_i32_5 : BitVec 32 := 11#32
  let v12 : BitVec 32 := Scalar.subi c11_i32_5 v10
  let v13 : BitVec 32 := Scalar.select v11 v10 v12
  let c1_i32_94 : BitVec 32 := 1#32
  let v97 : BitVec 32 := Scalar.muli v13 c1_i32_94
  let v98 : BitVec 32 := Scalar.addi c0_i32_95 v97
  v98.toNat
def k0_dev7 (d0 : Dev nD) : Nat :=
  let c0_i32_147 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c16_i32 : BitVec 32 := 16#32
  let v3 : BitVec 32 := Scalar.addi v2 c16_i32
  let c8_i32_0 : BitVec 32 := 8#32
  let v4 : BitVec 32 := Scalar.remsi v3 c8_i32_0
  let c4_i32 : BitVec 32 := 4#32
  let v5 : BitVec 1 := Scalar.cmpi .slt v4 c4_i32
  let c11_i32 : BitVec 32 := 11#32
  let v6 : BitVec 32 := Scalar.subi c11_i32 v4
  let v7 : BitVec 32 := Scalar.select v5 v4 v6
  let c1_i32_6 : BitVec 32 := 1#32
  let v14 : BitVec 32 := Scalar.addi v7 c1_i32_6
  let c16_i32_7 : BitVec 32 := 16#32
  let v15 : BitVec 32 := Scalar.addi v14 c16_i32_7
  let c8_i32_8 : BitVec 32 := 8#32
  let v16 : BitVec 32 := Scalar.remsi v15 c8_i32_8
  let c4_i32_9 : BitVec 32 := 4#32
  let v17 : BitVec 1 := Scalar.cmpi .slt v16 c4_i32_9
  let c11_i32_10 : BitVec 32 := 11#32
  let v18 : BitVec 32 := Scalar.subi c11_i32_10 v16
  let v19 : BitVec 32 := Scalar.select v17 v16 v18
  let c1_i32_146 : BitVec 32 := 1#32
  let v135 : BitVec 32 := Scalar.muli v19 c1_i32_146
  let v136 : BitVec 32 := Scalar.addi c0_i32_147 v135
  v136.toNat
def k0_dev8 (d0 : Dev nD) : Nat :=
  let c0_i32_188 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c16_i32 : BitVec 32 := 16#32
  let v3 : BitVec 32 := Scalar.addi v2 c16_i32
  let c8_i32_0 : BitVec 32 := 8#32
  let v4 : BitVec 32 := Scalar.remsi v3 c8_i32_0
  let c4_i32 : BitVec 32 := 4#32
  let v5 : BitVec 1 := Scalar.cmpi .slt v4 c4_i32
  let c11_i32 : BitVec 32 := 11#32
  let v6 : BitVec 32 := Scalar.subi c11_i32 v4
  let v7 : BitVec 32 := Scalar.select v5 v4 v6
  let c1_i32_1 : BitVec 32 := 1#32
  let v8 : BitVec 32 := Scalar.subi v7 c1_i32_1
  let c16_i32_2 : BitVec 32 := 16#32
  let v9 : BitVec 32 := Scalar.addi v8 c16_i32_2
  let c8_i32_3 : BitVec 32 := 8#32
  let v10 : BitVec 32 := Scalar.remsi v9 c8_i32_3
  let c4_i32_4 : BitVec 32 := 4#32
  let v11 : BitVec 1 := Scalar.cmpi .slt v10 c4_i32_4
  let c11_i32_5 : BitVec 32 := 11#32
  let v12 : BitVec 32 := Scalar.subi c11_i32_5 v10
  let v13 : BitVec 32 := Scalar.select v11 v10 v12
  let c1_i32_187 : BitVec 32 := 1#32
  let v159 : BitVec 32 := Scalar.muli v13 c1_i32_187
  let v160 : BitVec 32 := Scalar.addi c0_i32_188 v159
  v160.toNat
def k0_dev9 (d0 : Dev nD) : Nat :=
  let c0_i32_229 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c16_i32 : BitVec 32 := 16#32
  let v3 : BitVec 32 := Scalar.addi v2 c16_i32
  let c8_i32_0 : BitVec 32 := 8#32
  let v4 : BitVec 32 := Scalar.remsi v3 c8_i32_0
  let c4_i32 : BitVec 32 := 4#32
  let v5 : BitVec 1 := Scalar.cmpi .slt v4 c4_i32
  let c11_i32 : BitVec 32 := 11#32
  let v6 : BitVec 32 := Scalar.subi c11_i32 v4
  let v7 : BitVec 32 := Scalar.select v5 v4 v6
  let c1_i32_6 : BitVec 32 := 1#32
  let v14 : BitVec 32 := Scalar.addi v7 c1_i32_6
  let c16_i32_7 : BitVec 32 := 16#32
  let v15 : BitVec 32 := Scalar.addi v14 c16_i32_7
  let c8_i32_8 : BitVec 32 := 8#32
  let v16 : BitVec 32 := Scalar.remsi v15 c8_i32_8
  let c4_i32_9 : BitVec 32 := 4#32
  let v17 : BitVec 1 := Scalar.cmpi .slt v16 c4_i32_9
  let c11_i32_10 : BitVec 32 := 11#32
  let v18 : BitVec 32 := Scalar.subi c11_i32_10 v16
  let v19 : BitVec 32 := Scalar.select v17 v16 v18
  let c1_i32_228 : BitVec 32 := 1#32
  let v183 : BitVec 32 := Scalar.muli v19 c1_i32_228
  let v184 : BitVec 32 := Scalar.addi c0_i32_229 v183
  v184.toNat
def k0_dev10 (d0 : Dev nD) : Nat :=
  let c0_i32_270 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c16_i32 : BitVec 32 := 16#32
  let v3 : BitVec 32 := Scalar.addi v2 c16_i32
  let c8_i32_0 : BitVec 32 := 8#32
  let v4 : BitVec 32 := Scalar.remsi v3 c8_i32_0
  let c4_i32 : BitVec 32 := 4#32
  let v5 : BitVec 1 := Scalar.cmpi .slt v4 c4_i32
  let c11_i32 : BitVec 32 := 11#32
  let v6 : BitVec 32 := Scalar.subi c11_i32 v4
  let v7 : BitVec 32 := Scalar.select v5 v4 v6
  let c1_i32_1 : BitVec 32 := 1#32
  let v8 : BitVec 32 := Scalar.subi v7 c1_i32_1
  let c16_i32_2 : BitVec 32 := 16#32
  let v9 : BitVec 32 := Scalar.addi v8 c16_i32_2
  let c8_i32_3 : BitVec 32 := 8#32
  let v10 : BitVec 32 := Scalar.remsi v9 c8_i32_3
  let c4_i32_4 : BitVec 32 := 4#32
  let v11 : BitVec 1 := Scalar.cmpi .slt v10 c4_i32_4
  let c11_i32_5 : BitVec 32 := 11#32
  let v12 : BitVec 32 := Scalar.subi c11_i32_5 v10
  let v13 : BitVec 32 := Scalar.select v11 v10 v12
  let c1_i32_269 : BitVec 32 := 1#32
  let v207 : BitVec 32 := Scalar.muli v13 c1_i32_269
  let v208 : BitVec 32 := Scalar.addi c0_i32_270 v207
  v208.toNat
def k0_dev11 (d0 : Dev nD) : Nat :=
  let c0_i32_332 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c16_i32 : BitVec 32 := 16#32
  let v3 : BitVec 32 := Scalar.addi v2 c16_i32
  let c8_i32_0 : BitVec 32 := 8#32
  let v4 : BitVec 32 := Scalar.remsi v3 c8_i32_0
  let c4_i32 : BitVec 32 := 4#32
  let v5 : BitVec 1 := Scalar.cmpi .slt v4 c4_i32
  let c11_i32 : BitVec 32 := 11#32
  let v6 : BitVec 32 := Scalar.subi c11_i32 v4
  let v7 : BitVec 32 := Scalar.select v5 v4 v6
  let c1_i32_6 : BitVec 32 := 1#32
  let v14 : BitVec 32 := Scalar.addi v7 c1_i32_6
  let c16_i32_7 : BitVec 32 := 16#32
  let v15 : BitVec 32 := Scalar.addi v14 c16_i32_7
  let c8_i32_8 : BitVec 32 := 8#32
  let v16 : BitVec 32 := Scalar.remsi v15 c8_i32_8
  let c4_i32_9 : BitVec 32 := 4#32
  let v17 : BitVec 1 := Scalar.cmpi .slt v16 c4_i32_9
  let c11_i32_10 : BitVec 32 := 11#32
  let v18 : BitVec 32 := Scalar.subi c11_i32_10 v16
  let v19 : BitVec 32 := Scalar.select v17 v16 v18
  let c1_i32_331 : BitVec 32 := 1#32
  let v259 : BitVec 32 := Scalar.muli v19 c1_i32_331
  let v260 : BitVec 32 := Scalar.addi c0_i32_332 v259
  v260.toNat
def k0_dev12 (d0 : Dev nD) : Nat :=
  let c0_i32_373 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c16_i32 : BitVec 32 := 16#32
  let v3 : BitVec 32 := Scalar.addi v2 c16_i32
  let c8_i32_0 : BitVec 32 := 8#32
  let v4 : BitVec 32 := Scalar.remsi v3 c8_i32_0
  let c4_i32 : BitVec 32 := 4#32
  let v5 : BitVec 1 := Scalar.cmpi .slt v4 c4_i32
  let c11_i32 : BitVec 32 := 11#32
  let v6 : BitVec 32 := Scalar.subi c11_i32 v4
  let v7 : BitVec 32 := Scalar.select v5 v4 v6
  let c1_i32_1 : BitVec 32 := 1#32
  let v8 : BitVec 32 := Scalar.subi v7 c1_i32_1
  let c16_i32_2 : BitVec 32 := 16#32
  let v9 : BitVec 32 := Scalar.addi v8 c16_i32_2
  let c8_i32_3 : BitVec 32 := 8#32
  let v10 : BitVec 32 := Scalar.remsi v9 c8_i32_3
  let c4_i32_4 : BitVec 32 := 4#32
  let v11 : BitVec 1 := Scalar.cmpi .slt v10 c4_i32_4
  let c11_i32_5 : BitVec 32 := 11#32
  let v12 : BitVec 32 := Scalar.subi c11_i32_5 v10
  let v13 : BitVec 32 := Scalar.select v11 v10 v12
  let c1_i32_372 : BitVec 32 := 1#32
  let v283 : BitVec 32 := Scalar.muli v13 c1_i32_372
  let v284 : BitVec 32 := Scalar.addi c0_i32_373 v283
  v284.toNat
def k0_dev13 (d0 : Dev nD) : Nat :=
  let c0_i32_414 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c16_i32 : BitVec 32 := 16#32
  let v3 : BitVec 32 := Scalar.addi v2 c16_i32
  let c8_i32_0 : BitVec 32 := 8#32
  let v4 : BitVec 32 := Scalar.remsi v3 c8_i32_0
  let c4_i32 : BitVec 32 := 4#32
  let v5 : BitVec 1 := Scalar.cmpi .slt v4 c4_i32
  let c11_i32 : BitVec 32 := 11#32
  let v6 : BitVec 32 := Scalar.subi c11_i32 v4
  let v7 : BitVec 32 := Scalar.select v5 v4 v6
  let c1_i32_6 : BitVec 32 := 1#32
  let v14 : BitVec 32 := Scalar.addi v7 c1_i32_6
  let c16_i32_7 : BitVec 32 := 16#32
  let v15 : BitVec 32 := Scalar.addi v14 c16_i32_7
  let c8_i32_8 : BitVec 32 := 8#32
  let v16 : BitVec 32 := Scalar.remsi v15 c8_i32_8
  let c4_i32_9 : BitVec 32 := 4#32
  let v17 : BitVec 1 := Scalar.cmpi .slt v16 c4_i32_9
  let c11_i32_10 : BitVec 32 := 11#32
  let v18 : BitVec 32 := Scalar.subi c11_i32_10 v16
  let v19 : BitVec 32 := Scalar.select v17 v16 v18
  let c1_i32_413 : BitVec 32 := 1#32
  let v307 : BitVec 32 := Scalar.muli v19 c1_i32_413
  let v308 : BitVec 32 := Scalar.addi c0_i32_414 v307
  v308.toNat
def k0_dev14 (d0 : Dev nD) : Nat :=
  let c0_i32_455 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c16_i32 : BitVec 32 := 16#32
  let v3 : BitVec 32 := Scalar.addi v2 c16_i32
  let c8_i32_0 : BitVec 32 := 8#32
  let v4 : BitVec 32 := Scalar.remsi v3 c8_i32_0
  let c4_i32 : BitVec 32 := 4#32
  let v5 : BitVec 1 := Scalar.cmpi .slt v4 c4_i32
  let c11_i32 : BitVec 32 := 11#32
  let v6 : BitVec 32 := Scalar.subi c11_i32 v4
  let v7 : BitVec 32 := Scalar.select v5 v4 v6
  let c1_i32_1 : BitVec 32 := 1#32
  let v8 : BitVec 32 := Scalar.subi v7 c1_i32_1
  let c16_i32_2 : BitVec 32 := 16#32
  let v9 : BitVec 32 := Scalar.addi v8 c16_i32_2
  let c8_i32_3 : BitVec 32 := 8#32
  let v10 : BitVec 32 := Scalar.remsi v9 c8_i32_3
  let c4_i32_4 : BitVec 32 := 4#32
  let v11 : BitVec 1 := Scalar.cmpi .slt v10 c4_i32_4
  let c11_i32_5 : BitVec 32 := 11#32
  let v12 : BitVec 32 := Scalar.subi c11_i32_5 v10
  let v13 : BitVec 32 := Scalar.select v11 v10 v12
  let c1_i32_454 : BitVec 32 := 1#32
  let v331 : BitVec 32 := Scalar.muli v13 c1_i32_454
  let v332 : BitVec 32 := Scalar.addi c0_i32_455 v331
  v332.toNat
def k0_dev15 (d0 : Dev nD) : Nat :=
  let c0_i32_517 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c16_i32 : BitVec 32 := 16#32
  let v3 : BitVec 32 := Scalar.addi v2 c16_i32
  let c8_i32_0 : BitVec 32 := 8#32
  let v4 : BitVec 32 := Scalar.remsi v3 c8_i32_0
  let c4_i32 : BitVec 32 := 4#32
  let v5 : BitVec 1 := Scalar.cmpi .slt v4 c4_i32
  let c11_i32 : BitVec 32 := 11#32
  let v6 : BitVec 32 := Scalar.subi c11_i32 v4
  let v7 : BitVec 32 := Scalar.select v5 v4 v6
  let c1_i32_6 : BitVec 32 := 1#32
  let v14 : BitVec 32 := Scalar.addi v7 c1_i32_6
  let c16_i32_7 : BitVec 32 := 16#32
  let v15 : BitVec 32 := Scalar.addi v14 c16_i32_7
  let c8_i32_8 : BitVec 32 := 8#32
  let v16 : BitVec 32 := Scalar.remsi v15 c8_i32_8
  let c4_i32_9 : BitVec 32 := 4#32
  let v17 : BitVec 1 := Scalar.cmpi .slt v16 c4_i32_9
  let c11_i32_10 : BitVec 32 := 11#32
  let v18 : BitVec 32 := Scalar.subi c11_i32_10 v16
  let v19 : BitVec 32 := Scalar.select v17 v16 v18
  let c1_i32_516 : BitVec 32 := 1#32
  let v383 : BitVec 32 := Scalar.muli v19 c1_i32_516
  let v384 : BitVec 32 := Scalar.addi c0_i32_517 v383
  v384.toNat
def k0_dev16 (d0 : Dev nD) : Nat :=
  let c0_i32_558 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c16_i32 : BitVec 32 := 16#32
  let v3 : BitVec 32 := Scalar.addi v2 c16_i32
  let c8_i32_0 : BitVec 32 := 8#32
  let v4 : BitVec 32 := Scalar.remsi v3 c8_i32_0
  let c4_i32 : BitVec 32 := 4#32
  let v5 : BitVec 1 := Scalar.cmpi .slt v4 c4_i32
  let c11_i32 : BitVec 32 := 11#32
  let v6 : BitVec 32 := Scalar.subi c11_i32 v4
  let v7 : BitVec 32 := Scalar.select v5 v4 v6
  let c1_i32_1 : BitVec 32 := 1#32
  let v8 : BitVec 32 := Scalar.subi v7 c1_i32_1
  let c16_i32_2 : BitVec 32 := 16#32
  let v9 : BitVec 32 := Scalar.addi v8 c16_i32_2
  let c8_i32_3 : BitVec 32 := 8#32
  let v10 : BitVec 32 := Scalar.remsi v9 c8_i32_3
  let c4_i32_4 : BitVec 32 := 4#32
  let v11 : BitVec 1 := Scalar.cmpi .slt v10 c4_i32_4
  let c11_i32_5 : BitVec 32 := 11#32
  let v12 : BitVec 32 := Scalar.subi c11_i32_5 v10
  let v13 : BitVec 32 := Scalar.select v11 v10 v12
  let c1_i32_557 : BitVec 32 := 1#32
  let v407 : BitVec 32 := Scalar.muli v13 c1_i32_557
  let v408 : BitVec 32 := Scalar.addi c0_i32_558 v407
  v408.toNat
def k0_dev17 (d0 : Dev nD) : Nat :=
  let c0_i32_598 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c16_i32 : BitVec 32 := 16#32
  let v3 : BitVec 32 := Scalar.addi v2 c16_i32
  let c8_i32_0 : BitVec 32 := 8#32
  let v4 : BitVec 32 := Scalar.remsi v3 c8_i32_0
  let c4_i32 : BitVec 32 := 4#32
  let v5 : BitVec 1 := Scalar.cmpi .slt v4 c4_i32
  let c11_i32 : BitVec 32 := 11#32
  let v6 : BitVec 32 := Scalar.subi c11_i32 v4
  let v7 : BitVec 32 := Scalar.select v5 v4 v6
  let c1_i32_6 : BitVec 32 := 1#32
  let v14 : BitVec 32 := Scalar.addi v7 c1_i32_6
  let c16_i32_7 : BitVec 32 := 16#32
  let v15 : BitVec 32 := Scalar.addi v14 c16_i32_7
  let c8_i32_8 : BitVec 32 := 8#32
  let v16 : BitVec 32 := Scalar.remsi v15 c8_i32_8
  let c4_i32_9 : BitVec 32 := 4#32
  let v17 : BitVec 1 := Scalar.cmpi .slt v16 c4_i32_9
  let c11_i32_10 : BitVec 32 := 11#32
  let v18 : BitVec 32 := Scalar.subi c11_i32_10 v16
  let v19 : BitVec 32 := Scalar.select v17 v16 v18
  let c1_i32_597 : BitVec 32 := 1#32
  let v431 : BitVec 32 := Scalar.muli v19 c1_i32_597
  let v432 : BitVec 32 := Scalar.addi c0_i32_598 v431
  v432.toNat
def k0_dev18 (d0 : Dev nD) : Nat :=
  let c0_i32_639 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c16_i32 : BitVec 32 := 16#32
  let v3 : BitVec 32 := Scalar.addi v2 c16_i32
  let c8_i32_0 : BitVec 32 := 8#32
  let v4 : BitVec 32 := Scalar.remsi v3 c8_i32_0
  let c4_i32 : BitVec 32 := 4#32
  let v5 : BitVec 1 := Scalar.cmpi .slt v4 c4_i32
  let c11_i32 : BitVec 32 := 11#32
  let v6 : BitVec 32 := Scalar.subi c11_i32 v4
  let v7 : BitVec 32 := Scalar.select v5 v4 v6
  let c1_i32_1 : BitVec 32 := 1#32
  let v8 : BitVec 32 := Scalar.subi v7 c1_i32_1
  let c16_i32_2 : BitVec 32 := 16#32
  let v9 : BitVec 32 := Scalar.addi v8 c16_i32_2
  let c8_i32_3 : BitVec 32 := 8#32
  let v10 : BitVec 32 := Scalar.remsi v9 c8_i32_3
  let c4_i32_4 : BitVec 32 := 4#32
  let v11 : BitVec 1 := Scalar.cmpi .slt v10 c4_i32_4
  let c11_i32_5 : BitVec 32 := 11#32
  let v12 : BitVec 32 := Scalar.subi c11_i32_5 v10
  let v13 : BitVec 32 := Scalar.select v11 v10 v12
  let c1_i32_638 : BitVec 32 := 1#32
  let v455 : BitVec 32 := Scalar.muli v13 c1_i32_638
  let v456 : BitVec 32 := Scalar.addi c0_i32_639 v455
  v456.toNat
abbrev stage0_0 : Fin 1 → Memref sig .tc .vmem S1024x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "inv_wire" => some ((254 / 9 : ℝ) : EReal)
  | "qs" => some (((Real.sqrt 128)⁻¹ * (9 / 254) : ℝ) : EReal)
  | "wire" => some ((9 / 254 : ℝ) : EReal)
  | _ => none
-- ==== ReferenceIdeal.lean ====
abbrev S8192x128 : Shape := ⟨2, ![8192, 128]⟩
abbrev S_ : Shape := ⟨0, ![]⟩
abbrev S128x8192 : Shape := ⟨2, ![128, 8192]⟩
abbrev S8192x8192 : Shape := ⟨2, ![8192, 8192]⟩
abbrev S8192 : Shape := ⟨1, ![8192]⟩
abbrev S8192x1 : Shape := ⟨2, ![8192, 1]⟩

abbrev nBuf : Space → Nat
  | .hbm => 58
  | .vmem => 0
  | .smem => 0
  | _ => 0

abbrev bufTy : (tb : Table) → Fin (tcTables nBuf tb) → BufTy
  | .hbm, ⟨0, _⟩ => ⟨S8192x128, .bf16⟩
  | .hbm, ⟨1, _⟩ => ⟨S8192x128, .bf16⟩
  | .hbm, ⟨2, _⟩ => ⟨S8192x128, .bf16⟩
  | .hbm, ⟨3, _⟩ => ⟨S8192x128, .f32⟩
  | .hbm, ⟨4, _⟩ => ⟨S8192x128, .f32⟩
  | .hbm, ⟨5, _⟩ => ⟨S8192x128, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S8192x128, .f32⟩
  | .hbm, ⟨11, _⟩ => ⟨S8192x128, .f32⟩
  | .hbm, ⟨12, _⟩ => ⟨S8192x128, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S8192x128, .f32⟩
  | .hbm, ⟨17, _⟩ => ⟨S8192x128, .f32⟩
  | .hbm, ⟨18, _⟩ => ⟨S_, .f32⟩
  | .hbm, ⟨19, _⟩ => ⟨S8192x128, .f32⟩
  | .hbm, ⟨20, _⟩ => ⟨S8192x128, .f32⟩
  | .hbm, ⟨21, _⟩ => ⟨S_, .f32⟩
  | .hbm, ⟨22, _⟩ => ⟨S8192x128, .f32⟩
  | .hbm, ⟨23, _⟩ => ⟨S8192x128, .f32⟩
  | .hbm, ⟨24, _⟩ => ⟨S_, .f32⟩
  | .hbm, ⟨25, _⟩ => ⟨S8192x128, .f32⟩
  | .hbm, ⟨26, _⟩ => ⟨S8192x128, .f32⟩
  | .hbm, ⟨27, _⟩ => ⟨S8192x128, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S8192x128, .f32⟩
  | .hbm, ⟨32, _⟩ => ⟨S8192x128, .f32⟩
  | .hbm, ⟨33, _⟩ => ⟨S_, .f32⟩
  | .hbm, ⟨34, _⟩ => ⟨S8192x128, .f32⟩
  | .hbm, ⟨35, _⟩ => ⟨S8192x128, .f32⟩
  | .hbm, ⟨36, _⟩ => ⟨S_, .f32⟩
  | .hbm, ⟨37, _⟩ => ⟨S8192x128, .f32⟩
  | .hbm, ⟨38, _⟩ => ⟨S8192x128, .f32⟩
  | .hbm, ⟨39, _⟩ => ⟨S128x8192, .f32⟩
  | .hbm, ⟨40, _⟩ => ⟨S8192x8192, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S8192x8192, .f32⟩
  | .hbm, ⟨45, _⟩ => ⟨S8192x8192, .f32⟩
  | .hbm, ⟨46, _⟩ => ⟨S_, .f32⟩
  | .hbm, ⟨47, _⟩ => ⟨S8192, .f32⟩
  | .hbm, ⟨48, _⟩ => ⟨S8192x1, .f32⟩
  | .hbm, ⟨49, _⟩ => ⟨S8192x8192, .f32⟩
  | .hbm, ⟨50, _⟩ => ⟨S8192x8192, .f32⟩
  | .hbm, ⟨51, _⟩ => ⟨S8192x8192, .f32⟩
  | .hbm, ⟨52, _⟩ => ⟨S_, .f32⟩
  | .hbm, ⟨53, _⟩ => ⟨S8192, .f32⟩
  | .hbm, ⟨54, _⟩ => ⟨S8192x1, .f32⟩
  | .hbm, ⟨55, _⟩ => ⟨S8192x8192, .f32⟩
  | .hbm, ⟨56, _⟩ => ⟨S8192x8192, .f32⟩
  | .hbm, ⟨57, _⟩ => ⟨S8192x128, .f32⟩
  | _, _ => ⟨S8192x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_cst_2 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_cst_4 : Ref sig .tc := ⟨.hbm, 29, rfl⟩
abbrev main_call3_v0 : Ref sig .tc := ⟨.hbm, 30, rfl⟩
abbrev main_call3_v1 : Ref sig .tc := ⟨.hbm, 31, rfl⟩
abbrev main_call3_v2 : Ref sig .tc := ⟨.hbm, 32, rfl⟩
abbrev main_call3_v3 : Ref sig .tc := ⟨.hbm, 33, rfl⟩
abbrev main_call3_v4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_7 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩

abbrev nD : Nat := 1
abbrev τ : Topo := Topo.v7x

variable {F : FTy → Type} [FloatOps F]
-- ==== Proof.Ring.lean ====
/-
# The two rings: geometry and contents

Each device keeps two five-slot buffers of quantised key and value blocks. Slot 0 holds its own blocks. Slot `s + 1` of
the first buffer receives slot `s` of the previous device on the ring; slot `s + 1` of the second receives slot `s` of
the next one. The last slot is filled by halves: rows below 512 in the first buffer, the rest in the second. This module
names the devices' neighbours, the sixteen transfers in the order the kernel starts them, the boxes they read and write,
and the one array (`Cc`) that states what each buffer holds once filled.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.KernelIdeal.TwoRings

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The state a run starts from: memory `m`, all counters zero. -/
def s₀ : MemSt nD τ sig (Elt F) := ⟨m, fun _ => 0, ρ⟩

/-! ## Neighbours -/

/-- A device's place on the ring, and the device at a place: the second half of the devices is reversed. -/
def place (c : ℕ) : ℕ := if c % 8 < 4 then c % 8 else 11 - c % 8
theorem place_lt (c : ℕ) : place c < 8 := by unfold place; split <;> omega

set_option backward.proofsInPublic true in
/-- The device one place on. -/
def nxt (c : Dev nD) : Dev nD := ⟨place (place c.val + 1), place_lt _⟩
set_option backward.proofsInPublic true in
/-- The device one place back. -/
def prv (c : Dev nD) : Dev nD := ⟨place (place c.val + 7), place_lt _⟩
theorem prv_nxt (c : Dev nD) : prv (nxt c) = c := by revert c; decide
theorem nxt_prv (c : Dev nD) : nxt (prv c) = c := by revert c; decide

/-- The ring as a permutation of the devices. -/
def ring : Dev nD ≃ Dev nD := ⟨nxt, prv, prv_nxt, nxt_prv⟩

/-- Which neighbour a transfer goes to: the next device from the first buffer (`true`), the previous one from the second. -/
def tgt (b : Bool) (c : Dev nD) : Dev nD := if b then nxt c else prv c
/-- The neighbour from which the buffer is filled. -/
def frm (b : Bool) (c : Dev nD) : Dev nD := if b then prv c else nxt c
theorem frm_tgt (b : Bool) (c : Dev nD) : frm b (tgt b c) = c := by cases b <;> simp [frm, tgt, prv_nxt, nxt_prv]
theorem tgt_frm (b : Bool) (c : Dev nD) : tgt b (frm b c) = c := by cases b <;> simp [frm, tgt, prv_nxt, nxt_prv]

/-- The device whose block slot `s` of a buffer holds. -/
def hop (b : Bool) (s : ℕ) (c : Dev nD) : Dev nD := (frm b)^[s] c
theorem hop_succ_tgt (b : Bool) (s : ℕ) (c : Dev nD) : hop b (s + 1) (tgt b c) = hop b s c := by
  unfold hop; rw [Function.iterate_succ_apply, frm_tgt]

/-- The two expressions the kernel's device arithmetic comes to are the neighbours. -/
theorem back_val (c : Dev nD) : (if (((if ((c.val + 16) % 8) < 4 then ((c.val + 16) % 8) else 11 - ((c.val + 16) % 8)) + 15) % 8) < 4 then (((if ((c.val + 16) % 8) < 4 then ((c.val + 16) % 8) else 11 - ((c.val + 16) % 8)) + 15) % 8) else 11 - (((if ((c.val + 16) % 8) < 4 then ((c.val + 16) % 8) else 11 - ((c.val + 16) % 8)) + 15) % 8)) = (prv c).val := by revert c; decide
theorem on_val (c : Dev nD) : (if (((if ((c.val + 16) % 8) < 4 then ((c.val + 16) % 8) else 11 - ((c.val + 16) % 8)) + 17) % 8) < 4 then (((if ((c.val + 16) % 8) < 4 then ((c.val + 16) % 8) else 11 - ((c.val + 16) % 8)) + 17) % 8) else 11 - (((if ((c.val + 16) % 8) < 4 then ((c.val + 16) % 8) else 11 - ((c.val + 16) % 8)) + 17) % 8)) = (nxt c).val := by revert c; decide

/-- The devices the kernel computes: the two signals go back then on, the transfers on and back in turn. -/
theorem dev_sig1 (c : Dev nD) : (⟨k0_dev1 c, k0_dev1_lt c⟩ : Dev nD) = prv c := Fin.ext ((k0_dev1_eq c).trans (back_val c))
theorem dev_sig2 (c : Dev nD) : (⟨k0_dev2 c, k0_dev2_lt c⟩ : Dev nD) = nxt c := Fin.ext ((k0_dev2_eq c).trans (on_val c))

/-! ## The transfers, in program order -/

/-- Which buffer transfer `j` is of. -/
abbrev jb (j : Fin 16) : Bool := j.val % 2 == 0
/-- Its source slot, -/
abbrev js (j : Fin 16) : ℕ := j.val / 4
/-- its chunk (0: keys, 1: values), -/
abbrev jk (j : Fin 16) : ℕ := j.val / 2 % 2
/-- its first row, -/
abbrev jo (j : Fin 16) : ℕ := if j.val < 12 then 0 else if j.val % 2 = 0 then 0 else 512
/-- and its number of rows. -/
abbrev jr (j : Fin 16) : ℕ := if j.val < 12 then 1024 else 512

/-- Its send and its receive semaphore. -/
def ssem (j : Fin 16) : DmaSem sig := ⟨4 + 16 * (j.val % 2) + j.val / 2, by have := j.isLt; show _ < 36; omega⟩
def rsem (j : Fin 16) : DmaSem sig := ⟨12 + 16 * (j.val % 2) + j.val / 2, by have := j.isLt; show _ < 36; omega⟩
/-- The transfer a semaphore belongs to. -/
def jof (q : DmaSem sig) : Fin 16 := ⟨2 * ((q.val - 4) % 8) + (q.val - 4) / 16 % 2, by omega⟩
theorem jof_ssem (j : Fin 16) : jof (ssem j) = j := by revert j; decide
theorem jof_rsem (j : Fin 16) : jof (rsem j) = j := by revert j; decide

/-- The barrier semaphore. -/
abbrev barS : Sem sig := sig.barrier 0 rfl

abbrev barCell (c : Dev nD) : GSem nD τ sig := ((c : Thread nD τ), .reg barS)
abbrev sCell (c : Dev nD) (j : Fin 16) : GSem nD τ sig := ((c : Thread nD τ), .dma (ssem j))
abbrev rCell (c : Dev nD) (j : Fin 16) : GSem nD τ sig := ((c : Thread nD τ), .dma (rsem j))

/-! ## The buffers and their boxes -/

abbrev qM : Memref sig .tc .vmem S1024x128 .bf16 := Memref.whole cc0_stg0_0
abbrev kM : Memref sig .tc .vmem S1024x128 .bf16 := Memref.whole cc0_stg1_0
abbrev vM : Memref sig .tc .vmem S1024x128 .bf16 := Memref.whole cc0_stg2_0
abbrev oM : Memref sig .tc .vmem S1024x128 .f32 := Memref.whole cc0_stg3_0
/-- The two buffers. -/
abbrev scrM : Bool → Memref sig .tc .vmem S5x2x1024x128 .i8 := fun | true => Memref.whole cc0_scratch0 | false => Memref.whole cc0_scratch1

/-- Rows `o ..< o + R` of chunk `k` of slot `s`. -/
def box (s k o R : ℕ) : Finset S5x2x1024x128.Idx :=
  Finset.univ.filter fun i => (i 0).val = s ∧ (i 1).val = k ∧ o ≤ (i 2).val ∧ (i 2).val < o + R
theorem mem_box {s k o R : ℕ} {i : S5x2x1024x128.Idx} :
    i ∈ box s k o R ↔ (i 0).val = s ∧ (i 1).val = k ∧ o ≤ (i 2).val ∧ (i 2).val < o + R := by simp [box]

/-- What transfers into a device's buffer write, all together. -/
def land (b : Bool) : Finset S5x2x1024x128.Idx :=
  Finset.univ.filter fun i => 1 ≤ (i 0).val ∧ ((i 0).val = 4 → if b then (i 2).val < 512 else 512 ≤ (i 2).val)

/-- The source and destination boxes of transfer `j`. -/
abbrev srcB (j : Fin 16) : Finset S5x2x1024x128.Idx := box (js j) (jk j) (jo j) (jr j)
abbrev dstB (j : Fin 16) : Finset S5x2x1024x128.Idx := box (js j + 1) (jk j) (jo j) (jr j)

/-- Elements `S` of device `c`'s buffer `b`, at share `q`, holding `f`. -/
def pt (b : Bool) (c : Dev nD) (S : Finset S5x2x1024x128.Idx) (q : PosShare TreeShare) (f : S5x2x1024x128.Idx → BitVec 8) : sProp 𝕄 :=
  match b with
  | true => ((c : Thread nD τ).loc cc0_scratch0) ↦[S]{q} f
  | false => ((c : Thread nD τ).loc cc0_scratch1) ↦[S]{q} f

instance pt_storable (b : Bool) (c : Dev nD) (S q f) : BI.Storable (upEmb : UEmb _ 𝕄) (pt (F := F) b c S q f) := by
  cases b <;> (unfold pt; infer_instance)

omit [FloatOps F] [Named F] in
theorem pt_union (b : Bool) (c : Dev nD) {I J : Finset S5x2x1024x128.Idx} (q f) (h : Disjoint I J) :
    (pt b c (I ∪ J) q f : sProp 𝕄) ⊣⊢ iprop(pt b c I q f ∗ pt b c J q f) := by
  cases b <;> exact pointsTo_union h
omit [FloatOps F] [Named F] in
theorem pt_split (b : Bool) (c : Dev nD) {I S : Finset S5x2x1024x128.Idx} (q f) (h : I ⊆ S) :
    (pt b c S q f : sProp 𝕄) ⊣⊢ iprop(pt b c I q f ∗ pt b c (S \ I) q f) := by
  cases b <;> exact pointsTo_split_subset h
omit [FloatOps F] [Named F] in
theorem pt_congr (b : Bool) (c : Dev nD) {S : Finset S5x2x1024x128.Idx} (q) {f g} (h : ∀ i ∈ S, f i = g i) :
    (pt b c S q f : sProp 𝕄) = pt b c S q g := by
  cases b <;> exact pointsTo_congr h
omit [FloatOps F] [Named F] in
theorem pt_halves (b : Bool) (c : Dev nD) (S : Finset S5x2x1024x128.Idx) (f) :
    (pt b c S fullShare f : sProp 𝕄) ⊣⊢ iprop(pt b c S fullShare.left f ∗ pt b c S fullShare.right f) := by
  cases b <;> exact pointsTo_share (PosShare.mem_left_op_right fullShare)

/-! ### The boxes tile what transfers write -/

/-- Transfer `2 t` is of the first buffer, `2 t + 1` of the second. -/
abbrev jOf (b : Bool) (t : Fin 8) : Fin 16 := ⟨2 * t.val + (if b then 0 else 1), by have := t.isLt; split <;> omega⟩

theorem land_eq (b : Bool) : land b = (Finset.univ : Finset (Fin 8)).biUnion fun t => dstB (jOf b t) := by
  ext i
  simp only [Finset.mem_biUnion, Finset.mem_univ, true_and, mem_box, land, Finset.mem_filter]
  have h0 : (i 0).val < 5 := (i 0).isLt
  have h1 : (i 1).val < 2 := (i 1).isLt
  have h2 : (i 2).val < 1024 := (i 2).isLt
  constructor
  · rintro ⟨hs, hr⟩
    refine ⟨⟨2 * ((i 0).val - 1) + (i 1).val, by omega⟩, ?_⟩
    cases b <;> simp only [js, jk, jo, jr, jOf, if_true, if_false, Bool.false_eq_true] at hr ⊢ <;>
      refine ⟨by omega, by omega, ?_, ?_⟩ <;> split <;> (try split) <;> omega
  · rintro ⟨t, ha, hb, hc, hd⟩
    cases b <;> fin_cases t <;> simp [js, jk, jo, jr, jOf] at ha hb hc hd ⊢ <;> omega

theorem dst_disjoint (b : Bool) (t t' : Fin 8) (h : t ≠ t') : Disjoint (dstB (jOf b t)) (dstB (jOf b t')) := by
  rw [Finset.disjoint_left]; intro i hi hi'
  rw [mem_box] at hi hi'
  obtain ⟨h0, h1, _⟩ := hi; obtain ⟨h0', h1', _⟩ := hi'
  refine h (Fin.ext ?_)
  cases b <;> simp only [js, jk, jOf, if_true, if_false, Bool.false_eq_true] at h0 h1 h0' h1' <;> omega

omit [FloatOps F] [Named F] in
/-- So holding them is holding the boxes one by one. -/
theorem pt_land (b : Bool) (c : Dev nD) (q f) :
    (pt b c (land b) q f : sProp 𝕄) = bigSep Finset.univ fun t : Fin 8 => pt b c (dstB (jOf b t)) q f := by
  rw [land_eq]
  cases b
  · exact pointsTo_biUnion _ _ fun t _ t' _ h => dst_disjoint false t t' h
  · exact pointsTo_biUnion _ _ fun t _ t' _ h => dst_disjoint true t t' h

/-! ## Contents -/

/-- A device's staged operands. -/
def qst (c : Dev nD) : (cc0_stg0_0 : Ref sig .tc).ty.Contents (Elt F) :=
  (win0_0.blk (0 : Fin 1)).view.read (Elt F) ((s₀ m ρ).mem ((c : Thread nD τ).loc main_arg0))
def kst (c : Dev nD) : (cc0_stg1_0 : Ref sig .tc).ty.Contents (Elt F) :=
  (win0_1.blk (0 : Fin 1)).view.read (Elt F) ((s₀ m ρ).mem ((c : Thread nD τ).loc main_arg1))
def vst (c : Dev nD) : (cc0_stg2_0 : Ref sig .tc).ty.Contents (Elt F) :=
  (win0_2.blk (0 : Fin 1)).view.read (Elt F) ((s₀ m ρ).mem ((c : Thread nD τ).loc main_arg2))

/-- The quantised blocks of device `d`: its keys (chunk 0) and its values. -/
def blkq (k : ℕ) (d : Dev nD) : IVec S1024x128 8 := if k = 0 then k0_pay3 (k0_pay2 (kst m ρ d)) else k0_pay4 (vst m ρ d)

/-- The row and column of an element. -/
def tl (i : S5x2x1024x128.Idx) : S1024x128.Idx := fun | ⟨0, _⟩ => i 2 | ⟨1, _⟩ => i 3

/-- What device `c`'s buffer `b` holds, wherever it has been filled: in slot `s` the quantised blocks of the device `s`
    places away. -/
def Cc (b : Bool) (c : Dev nD) : S5x2x1024x128.Idx → BitVec 8 := fun i => blkq m ρ (i 1).val (hop b (i 0).val c) (tl i)

end Cert.KernelIdeal.TwoRings

end
-- ==== Proof.Sched.lean ====
/-
# The schedule of the signals and transfers

Every device has one barrier cell and, for each of its sixteen transfers, a send and a receive cell. Each is used for one
round. A device's barrier signal to a neighbour hands over the part of its own buffer that the neighbour's transfers will
write; a completed transfer hands the source back and the filled destination over. This module states that schedule, its
tables, what each device owes while it runs, and the levels that order the waits.
-/
module

public import proofs.«01_k».proof.Proof.Ring

@[expose] public section

noncomputable section

namespace Cert.KernelIdeal.TwoRings

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The memrefs transfers name -/

theorem inb_reg {s k o R : ℕ} (hs : s < 5) (hk : k < 2) (ho : o + R ≤ 1024) :
    ∀ a, (![s, k, o, 0] : Fin 4 → ℕ) a + (![1, 1, R, 128] : Fin 4 → ℕ) a ≤ S5x2x1024x128.size a := by
  intro a
  match a with
  | ⟨0, _⟩ => exact (show s + 1 ≤ 5 by omega)
  | ⟨1, _⟩ => exact (show k + 1 ≤ 2 by omega)
  | ⟨2, _⟩ => exact ho
  | ⟨3, _⟩ => exact (show 0 + 128 ≤ 128 by omega)

/-- Rows `o ..< o + R` of chunk `k` of slot `s` of a buffer, as the kernel slices and squeezes it. -/
abbrev regM (b : Bool) (s k o R : ℕ) (hb : ∀ a, (![s, k, o, 0] : Fin 4 → ℕ) a + (![1, 1, R, 128] : Fin 4 → ℕ) a ≤ S5x2x1024x128.size a)
    (hq : (⟨4, ![1, 1, R, 128]⟩ : Shape).Squeezes ⟨2, ![R, 128]⟩) : Memref sig .tc .vmem ⟨2, ![R, 128]⟩ .i8 :=
  ((scrM b).slice (Rect.unit (s := S5x2x1024x128) ![s, k, o, 0] (![1, 1, R, 128] : Fin 4 → ℕ) hb) (fun _ => rfl)).squeeze ⟨2, ![R, 128]⟩ hq

/-- What a transfer of `R` rows credits. -/
def credit (R : ℕ) : ℕ := sig.dmaCredit .tc (Kind.tc.table .vmem) (scrM true).view.buf ⟨2, ![R, 128]⟩ .i8

theorem credit_regM (b : Bool) (s k o R : ℕ) (hb hq) : (regM b s k o R hb hq).view.dmaCredit = credit R := by
  cases b <;> rfl

/-- What transfer `j` credits. -/
def Nj (j : Fin 16) : ℕ := credit (jr j)
theorem Nj_pos (j : Fin 16) : 0 < Nj j := by
  refine sig.dmaCredit_pos _ _ _ _ _ ?_
  fin_cases j <;> decide

theorem rect_box {s k o R : ℕ} (hb) : (Rect.unit (s := S5x2x1024x128) ![s, k, o, 0] (![1, 1, R, 128] : Fin 4 → ℕ) hb).set = box s k o R := by
  ext i
  have h3 : (i 3).val < 128 := (i 3).isLt
  rw [Rect.mem_set_unit, mem_box]
  constructor
  · intro h
    have h0 : s ≤ (i 0).val ∧ (i 0).val < s + 1 := h 0
    have h1 : k ≤ (i 1).val ∧ (i 1).val < k + 1 := h 1
    have h2 : o ≤ (i 2).val ∧ (i 2).val < o + R := h 2
    exact ⟨by omega, by omega, h2⟩
  · rintro ⟨h0, h1, h2⟩ a
    match a with
    | ⟨0, _⟩ => exact (show s ≤ (i 0).val ∧ (i 0).val < s + 1 by omega)
    | ⟨1, _⟩ => exact (show k ≤ (i 1).val ∧ (i 1).val < k + 1 by omega)
    | ⟨2, _⟩ => exact h2
    | ⟨3, _⟩ => exact (show 0 ≤ (i 3).val ∧ (i 3).val < 0 + 128 by omega)

theorem set_regM (b : Bool) (s k o R : ℕ) (hb hq) :
    (regM b s k o R hb hq).view.set = (match b with | true => box s k o R | false => box s k o R) := by
  cases b
  · exact (View.set_reshape _ _).trans ((View.set_slice_whole _ _).trans (rect_box hb))
  · exact (View.set_reshape _ _).trans ((View.set_slice_whole _ _).trans (rect_box hb))

/-! ## The schedule -/

/-- What a device's barrier cell receives from the next device: the part of its first buffer this device's transfers fill; -/
def barPayT (d : Dev nD) : sProp 𝕄 := iprop(∃ f, pt true (nxt d) (land true) fullShare f)
/-- and from the previous one: that of its second buffer. -/
def barPayF (d : Dev nD) : sProp 𝕄 := iprop(∃ f, pt false (prv d) (land false) fullShare f)
/-- What the end of transfer `j`'s sending returns: the lent share of its source. -/
def sPay (j : Fin 16) (d : Dev nD) : sProp 𝕄 := pt (jb j) d (srcB j) fullShare.right (Cc m ρ (jb j) d)
/-- What its landing hands the receiver: the filled box. -/
def rPay (j : Fin 16) (d : Dev nD) : sProp 𝕄 := pt (jb j) d (dstB j) fullShare (Cc m ρ (jb j) d)

/-- Whether a semaphore is one transfers are received on. -/
abbrev isRecv (q : DmaSem sig) : Bool := (q.val - 4) / 8 % 2 == 1
theorem isRecv_ssem (j : Fin 16) : isRecv (ssem j) = false := by revert j; decide
theorem isRecv_rsem (j : Fin 16) : isRecv (rsem j) = true := by revert j; decide
theorem four_le_ssem (j : Fin 16) : 4 ≤ (ssem j).val := by revert j; decide
theorem four_le_rsem (j : Fin 16) : 4 ≤ (rsem j).val := by revert j; decide

/-- The duties of a semaphore: both of the barrier's signals, one transfer end each of the others'. -/
def semDuties : SemLoc sig → Finset Bool
  | .reg q => if q = barS then Finset.univ else ∅
  | .dma q => if 4 ≤ q.val then {false} else ∅

def sched : Rounds.Schedule (GSem nD τ sig) Bool 𝕄 where
  duties g r := if r = 0 ∧ g.1.2 = .tc then semDuties g.2 else ∅
  unitless _ := False
  amount g _ _ := match g.2 with | .reg _ => 1 | .dma q => Nj (jof q)
  payload g _ d := match g.2 with
    | .reg _ => if d then barPayT g.1.1 else barPayF g.1.1
    | .dma q => if isRecv q then rPay m ρ (jof q) g.1.1 else sPay m ρ (jof q) g.1.1
  amount_pos g _ _ _ := by
    obtain ⟨t, q⟩ := g
    cases q
    · exact Nat.one_pos
    · exact Nj_pos _

instance sched_payload_storable (g : GSem nD τ sig) (r : ℕ) (d : Bool) :
    BI.Storable (upEmb : UEmb _ 𝕄) ((sched (F := F) m ρ).payload g r d) := by
  obtain ⟨t, q⟩ := g
  cases q
  · show BI.Storable upEmb (if d then barPayT t.1 else barPayF t.1)
    unfold barPayT barPayF
    split <;> infer_instance
  · show BI.Storable upEmb (if isRecv _ then rPay m ρ (jof _) t.1 else sPay m ρ (jof _) t.1)
    unfold rPay sPay
    split <;> infer_instance

section Tables
variable (c : Dev nD) (j : Fin 16)

theorem duties_bar : (sched (F := F) m ρ).duties (barCell c) 0 = Finset.univ := by
  dsimp only [sched]; rw [if_pos ⟨rfl, rfl⟩]; rfl
theorem duties_s : (sched (F := F) m ρ).duties (sCell c j) 0 = {false} := by
  dsimp only [sched]; rw [if_pos ⟨rfl, rfl⟩]; exact if_pos (four_le_ssem j)
theorem duties_r : (sched (F := F) m ρ).duties (rCell c j) 0 = {false} := by
  dsimp only [sched]; rw [if_pos ⟨rfl, rfl⟩]; exact if_pos (four_le_rsem j)
theorem duties_later (g : GSem nD τ sig) : ∀ r, 1 ≤ r → (sched (F := F) m ρ).duties g r = ∅ :=
  fun r hr => by dsimp only [sched]; rw [if_neg fun h => by omega]

theorem amount_bar (d : Bool) : (sched (F := F) m ρ).amount (barCell c) 0 d = 1 := rfl
theorem amount_s (d : Bool) : (sched (F := F) m ρ).amount (sCell c j) 0 d = Nj j := by
  show Nj (jof (ssem j)) = Nj j; rw [jof_ssem]
theorem amount_r (d : Bool) : (sched (F := F) m ρ).amount (rCell c j) 0 d = Nj j := by
  show Nj (jof (rsem j)) = Nj j; rw [jof_rsem]

theorem expect_bar : (sched (F := F) m ρ).expect (barCell c) 0 = 2 := by
  unfold Schedule.expect Schedule.amountOf
  rw [duties_bar, Finset.sum_congr rfl fun d _ => amount_bar m ρ c d, Finset.sum_const, Finset.card_univ, Fintype.card_bool, smul_eq_mul]
theorem expect_s : (sched (F := F) m ρ).expect (sCell c j) 0 = Nj j := by
  unfold Schedule.expect Schedule.amountOf; rw [duties_s, Finset.sum_singleton, amount_s]
theorem expect_r : (sched (F := F) m ρ).expect (rCell c j) 0 = Nj j := by
  unfold Schedule.expect Schedule.amountOf; rw [duties_r, Finset.sum_singleton, amount_r]

theorem payload_barT : (sched (F := F) m ρ).payload (barCell c) 0 true = barPayT c := rfl
theorem payload_barF : (sched (F := F) m ρ).payload (barCell c) 0 false = barPayF c := rfl
theorem payload_s (d : Bool) : (sched (F := F) m ρ).payload (sCell c j) 0 d = sPay m ρ j c := by
  show (if isRecv (ssem j) then rPay m ρ (jof (ssem j)) c else sPay m ρ (jof (ssem j)) c) = _
  rw [isRecv_ssem, jof_ssem]; exact if_neg Bool.false_ne_true
theorem payload_r (d : Bool) : (sched (F := F) m ρ).payload (rCell c j) 0 d = rPay m ρ j c := by
  show (if isRecv (rsem j) then rPay m ρ (jof (rsem j)) c else sPay m ρ (jof (rsem j)) c) = _
  rw [isRecv_rsem, jof_rsem]; exact if_pos rfl

theorem rest_bar : bigSep ((sched (F := F) m ρ).duties (barCell c) 0 \ ∅) (fun d => (sched (F := F) m ρ).payload (barCell c) 0 d)
    = iprop(barPayF c ∗ barPayT c) := by
  rw [Finset.sdiff_empty, duties_bar, bigSep_univ_eq_bigSepL [false, true] (by decide) (by decide), bigSepL_cons_cons, bigSepL_singleton,
    payload_barF, payload_barT]
  rfl
theorem rest_s : bigSep ((sched (F := F) m ρ).duties (sCell c j) 0 \ ∅) (fun d => (sched (F := F) m ρ).payload (sCell c j) 0 d) = sPay m ρ j c := by
  rw [Finset.sdiff_empty, duties_s, bigSep_singleton, payload_s]
theorem rest_r : bigSep ((sched (F := F) m ρ).duties (rCell c j) 0 \ ∅) (fun d => (sched (F := F) m ρ).payload (rCell c j) 0 d) = rPay m ρ j c := by
  rw [Finset.sdiff_empty, duties_r, bigSep_singleton, payload_r]

end Tables

/-! ## What each device owes; the levels -/

/-- While its last `n` transfers are still to start, a device owes their receive cells what they credit. -/
def Oto (c : Dev nD) : ℕ → CellTallies nD τ sig Unit
  | 0 => 0
  | n + 1 => Oto c n + tallyAt (rCell (tgt (jb ⟨15 - n, by omega⟩) c) ⟨15 - n, by omega⟩) () (Nj ⟨15 - n, by omega⟩)
/-- Before its second signal it also owes the next device's barrier, -/
def O₁ (c : Dev nD) : CellTallies nD τ sig Unit := Oto c 16 + tallyAt (barCell (nxt c)) () 1
/-- and before its first the previous one's. -/
def O₀ (c : Dev nD) : CellTallies nD τ sig Unit := O₁ c + tallyAt (barCell (prv c)) () 1

theorem Oto_succ (c : Dev nD) (j : Fin 16) (n : ℕ) (h : n + j.val = 15) :
    Oto c (n + 1) = Oto c n + tallyAt (rCell (tgt (jb j) c) j) () (Nj j) := by
  have : (⟨15 - n, by omega⟩ : Fin 16) = j := Fin.ext (by show 15 - n = j.val; omega)
  rw [Oto, this]

theorem Oto_pos {c : Dev nD} {n : ℕ} {g : GSem nD τ sig} {u : Unit} (hn : n ≤ 16) (h : 0 < Oto c n g u) :
    ∃ j : Fin 16, 16 ≤ n + j.val ∧ g = rCell (tgt (jb j) c) j := by
  induction n with
  | zero => exact absurd h (by simp [Oto])
  | succ n ih =>
    rw [Oto, Pi.add_apply, Finsupp.add_apply, tallyAt_apply] at h
    by_cases hg : g = rCell (tgt (jb ⟨15 - n, by omega⟩) c) ⟨15 - n, by omega⟩
    · exact ⟨⟨15 - n, by omega⟩, by show 16 ≤ n + 1 + (15 - n); omega, hg⟩
    · rw [if_neg fun h' => hg h'.1, Nat.add_zero] at h
      obtain ⟨j, hj, e⟩ := ih (by omega) h
      exact ⟨j, by omega, e⟩

theorem O₀_pos {c : Dev nD} {g : GSem nD τ sig} {u : Unit} (h : 0 < O₀ c g u) :
    (∃ j : Fin 16, g = rCell (tgt (jb j) c) j) ∨ g = barCell (nxt c) ∨ g = barCell (prv c) := by
  unfold O₀ O₁ at h
  rw [Pi.add_apply, Finsupp.add_apply, Pi.add_apply, Finsupp.add_apply, tallyAt_apply, tallyAt_apply] at h
  by_contra hn; rw [not_or, not_or] at hn
  rw [if_neg (show ¬ (g = barCell (prv c) ∧ u = ()) from fun h' => hn.2.2 h'.1),
    if_neg (show ¬ (g = barCell (nxt c) ∧ u = ()) from fun h' => hn.2.1 h'.1)] at h
  obtain ⟨j, -, e⟩ := Oto_pos (le_refl 16) (by simpa using h)
  exact hn.1 ⟨j, e⟩

def L (g : GSem nD τ sig) : Finset Unit := if g.1.2 = .tc then {()} else ∅
/-- Send and staging cells are lowest, then the barrier, then the receive cells in the order of the transfers. -/
def lv (g : GSem nD τ sig) (_ : Unit) : ℕ := match g.2 with
  | .reg _ => 1
  | .dma q => if 4 ≤ q.val ∧ isRecv q then 2 + (jof q).val else 0

theorem L_of_ne (g : GSem nD τ sig) (h : g.1.2 ≠ .tc) : L g = ∅ := if_neg h
theorem L_tc (c : Dev nD) (sm : SemLoc sig) : L ((c : Thread nD τ), sm) = {()} := if_pos rfl
theorem lv_r (c : Dev nD) (j : Fin 16) (u : Unit) : lv (rCell c j) u = 2 + j.val := by
  show (if 4 ≤ (rsem j).val ∧ isRecv (rsem j) = true then 2 + (jof (rsem j)).val else 0) = _
  rw [if_pos ⟨four_le_rsem j, isRecv_rsem j⟩, jof_rsem]
theorem lv_s (c : Dev nD) (j : Fin 16) (u : Unit) : lv (sCell c j) u = 0 := by
  show (if 4 ≤ (ssem j).val ∧ isRecv (ssem j) = true then 2 + (jof (ssem j)).val else 0) = _
  rw [isRecv_ssem]; exact if_neg fun h => Bool.false_ne_true h.2
theorem lv_bar (c : Dev nD) (u : Unit) : lv (barCell c) u = 1 := rfl

omit [FloatOps F] [Named F] in
/-- A wait below every transfer still to start may go ahead. -/
theorem mayWait_of_lt (c : Dev nD) (sm : SemLoc sig) (n cut : ℕ) (hn : n ≤ 16) (hs : lv ((c : Thread nD τ), sm) () ≤ cut) (hc : cut + n < 18) :
    (levAts L lv : sProp 𝕄) ⊢ MayWait (c : Thread nD τ) sm () (Oto c n) :=
  MayOwe.of_cut (L := L) (lev := lv) cut (fun p hp => by rw [Finset.mem_singleton.mp hp, L_tc]; exact Finset.mem_singleton_self _)
    (fun g u hg => by obtain ⟨j, -, rfl⟩ := Oto_pos hn hg; exact Finset.mem_singleton_self _)
    (fun p hp => by rw [Finset.mem_singleton.mp hp]; exact hs)
    (fun g u hg => by obtain ⟨j, hj, rfl⟩ := Oto_pos hn hg; rw [lv_r]; omega)

omit [FloatOps F] [Named F] in
/-- The staging copies' waits may go ahead before and after the body. -/
theorem mayWait_stage (c : Dev nD) (q : DmaSem sig) (hq : q.val < 4) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨j, rfl⟩ | rfl | rfl <;> exact Finset.mem_singleton_self _)
      (fun p hp => by
        rw [Finset.mem_singleton.mp hp]
        show (if 4 ≤ q.val ∧ isRecv q = true then 2 + (jof q).val else 0) ≤ 0
        rw [if_neg fun h => by omega])
      (fun g u hg => by
        rcases O₀_pos hg with ⟨j, rfl⟩ | rfl | rfl
        · rw [lv_r]; omega
        · rw [lv_bar]; omega
        · rw [lv_bar]; omega)
  · rw [MayWait_zero]; iintro -; iempintro

end Cert.KernelIdeal.TwoRings

end
-- ==== Proof.Xfer.lean ====
/-
# The steps of the kernel

One lemma for each kind of step of the body: starting a transfer, waiting for its two ends, the three together as the
middle of the kernel repeats them, a load from a buffer, and the store that fills slot 0. Each is stated for any transfer
or box.
-/
module

public import proofs.«01_k».proof.Proof.Sched

@[expose] public section

noncomputable section

namespace Cert.KernelIdeal.TwoRings

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (ρ : Dev nD → PrngReg)

abbrev 𝒱₀ : Variants := Variants.none

/-! ## Cells and what the body keeps of them -/

/-- The cells of a device: the barrier, and each transfer's send (`false`) and receive (`true`) cell. -/
abbrev Cell : Type := Option (Fin 16 × Bool)
def csem : Cell → SemLoc sig
  | none => .reg barS
  | some (j, false) => .dma (ssem j)
  | some (j, true) => .dma (rsem j)
abbrev kcell (p : Dev nD × Cell) : GSem nD τ sig := ((p.1 : Thread nD τ), csem p.2)

variable (K : Dev nD × Cell → ℕ)

/-- What every step may use: all cells' invariants, that all have reached round 0, and the levels. -/
def env : sProp 𝕄 :=
  iprop((bigSep Finset.univ fun p : Dev nD × Cell => cellInv ER (sched m ρ) (K p) (kcell p))
    ∗ (bigSep Finset.univ fun p : Dev nD × Cell => reached ER (kcell p) 0) ∗ levAts L lv)

instance env_persistent : BI.Persistent (env (F := F) m ρ K) := by unfold env; infer_instance

theorem env_inv (p : Dev nD × Cell) : env (F := F) m ρ K ⊢ cellInv ER (sched m ρ) (K p) (kcell p) := by
  unfold env
  exact (BI.sep_and.trans BI.and_elimL).trans (BI.bigSep_elim (Finset.mem_univ p))
theorem env_reached (p : Dev nD × Cell) : env (F := F) m ρ K ⊢ reached ER (kcell p) 0 := by
  unfold env
  exact ((BI.sep_and.trans BI.and_elimR).trans (BI.sep_and.trans BI.and_elimL)).trans (BI.bigSep_elim (Finset.mem_univ p))
theorem env_lev : env (F := F) m ρ K ⊢ levAts L lv := by
  unfold env; iintro ⟨-, -, H⟩; iexact H

/-- What a device owes, whatever it has waited for. -/
def ow (c : Dev nD) (O : CellTallies nD τ sig Unit) : sProp 𝕄 := iprop(∃ W, owes (c : Thread nD τ) O W)

/-- A transfer not yet started: both its duties, the device's own two cells, and the credit of what will land here. -/
def gh (c : Dev nD) (j : Fin 16) : sProp 𝕄 :=
  iprop(dutyTok ER (sCell c j) 0 false ∗ dutyTok ER (rCell (tgt (jb j) c) j) 0 false
    ∗ atPos ER (sCell c j) 0 ∅ 0 ∗ atPos ER (rCell c j) 0 ∅ 0 ∗ cred (tallyAt (rCell c j) () (Nj j)))
/-- The box of the neighbour it will fill. -/
def db (c : Dev nD) (j : Fin 16) : sProp 𝕄 := iprop(∃ f, pt (jb j) (tgt (jb j) c) (dstB j) fullShare f)
/-- A transfer in flight. -/
def fl (c : Dev nD) (j : Fin 16) : sProp 𝕄 :=
  iprop(cred (tallyAt (sCell c j) () (Nj j))
    ∗ atPos ER (sCell c j) 0 ∅ 0 ∗ atPos ER (rCell c j) 0 ∅ 0 ∗ cred (tallyAt (rCell c j) () (Nj j)))
/-- Both ends waited for. -/
def dn (c : Dev nD) (j : Fin 16) : sProp 𝕄 := iprop(atPos ER (sCell c j) (0 + 1) ∅ 0 ∗ atPos ER (rCell c j) (0 + 1) ∅ 0)

/-! ## Starting a transfer -/

theorem unit_fst_zero {R : ℕ} (y : (⟨4, ![1, 1, R, 128]⟩ : Shape).Idx) : (y 0).val = 0 ∧ (y 1).val = 0 :=
  ⟨Nat.lt_one_iff.mp (y 0).isLt, Nat.lt_one_iff.mp (y 1).isLt⟩

/-- Slot `s` here is slot `s + 1` at the neighbour. -/
theorem Cc_step (b : Bool) (c : Dev nD) {s k o R : ℕ} {hb hb'} (y : (⟨4, ![1, 1, R, 128]⟩ : Shape).Idx) :
    Cc m ρ b c ((Rect.unit (s := S5x2x1024x128) ![s, k, o, 0] (![1, 1, R, 128] : Fin 4 → ℕ) hb).emb y)
      = Cc m ρ b (tgt b c) ((Rect.unit (s := S5x2x1024x128) ![s + 1, k, o, 0] (![1, 1, R, 128] : Fin 4 → ℕ) hb').emb y) := by
  obtain ⟨h0, h1⟩ := unit_fst_zero y
  show blkq m ρ (k + 1 * (y 1).val) (hop b (s + 1 * (y 0).val) c) _ = blkq m ρ (k + 1 * (y 1).val) (hop b (s + 1 + 1 * (y 0).val) (tgt b c)) _
  have hh : hop b (s + 1 + 1 * (y 0).val) (tgt b c) = hop b (s + 1 * (y 0).val) c := by
    rw [h0]; exact hop_succ_tgt b s c
  rw [hh]
  rfl

/-- A landing over `fd` holds the target's contents. -/
theorem land_true (c : Dev nD) {s k o R : ℕ} (hb hq hb' hq') (fd : S5x2x1024x128.Idx → BitVec 8) :
    ∀ i ∈ (regM true (s + 1) k o R hb' hq').view.set,
      (regM true (s + 1) k o R hb' hq').view.write (Elt F) fd ((regM true s k o R hb hq).view.read (Elt F) (Cc m ρ true c)) Finset.univ i
        = Cc m ρ true (tgt true c) i := by
  intro i hi
  obtain ⟨x, -, rfl⟩ := Finset.mem_map.mp hi
  rw [View.write_emb_of_mem _ _ (Finset.mem_univ x), View.read_apply]
  exact Cc_step m ρ true c _
theorem land_false (c : Dev nD) {s k o R : ℕ} (hb hq hb' hq') (fd : S5x2x1024x128.Idx → BitVec 8) :
    ∀ i ∈ (regM false (s + 1) k o R hb' hq').view.set,
      (regM false (s + 1) k o R hb' hq').view.write (Elt F) fd ((regM false s k o R hb hq).view.read (Elt F) (Cc m ρ false c)) Finset.univ i
        = Cc m ρ false (tgt false c) i := by
  intro i hi
  obtain ⟨x, -, rfl⟩ := Finset.mem_map.mp hi
  rw [View.write_emb_of_mem _ _ (Finset.mem_univ x), View.read_apply]
  exact Cc_step m ρ false c _

/-- Holding a box is holding the elements of the memref that names it. -/
theorem pt_reg_true (c : Dev nD) (s k o R : ℕ) (hb hq) (q) (f : S5x2x1024x128.Idx → BitVec 8) :
    (pt true c (box s k o R) q f : sProp 𝕄)
      = ((regM true s k o R hb hq).view.loc (c : Thread nD τ) ↦[(regM true s k o R hb hq).view.set]{q} f) := by
  rw [set_regM]; rfl
theorem pt_reg_false (c : Dev nD) (s k o R : ℕ) (hb hq) (q) (f : S5x2x1024x128.Idx → BitVec 8) :
    (pt false c (box s k o R) q f : sProp 𝕄)
      = ((regM false s k o R hb hq).view.loc (c : Thread nD τ) ↦[(regM false s k o R hb hq).view.set]{q} f) := by
  rw [set_regM]; rfl

set_option maxHeartbeats 800000 in
/-- Starting transfer `j`, the last `n + 1` still to start. -/
theorem wp_start (c n' : Dev nD) (j : Fin 16) (n : ℕ) (hn : n + j.val = 15) {b : Bool} {s k o R : ℕ}
    (hj : (b, s, k, o, R) = (jb j, js j, jk j, jo j, jr j)) (hd : n' = tgt b c) {hb hq hb' hq'}
    {sS sV : DmaSem sig} (hS : sS = ssem j) (hV : sV = rsem j)
    {hsc : (regM b (s + 1) k o R hb' hq').view.ref.isScScratch = false}
    {hsrc : (regM b s k o R hb hq).view.WordExact} {hdst : (regM b (s + 1) k o R hb' hq').view.WordExact}
    {hsem : DmaTarget.Typed .vmem (.dma sV) (.remote (Dev.tc n' : Thread nD τ) (regM b (s + 1) k o R hb' hq') (.dma sS) hsc)}
    {α : Type} {Q : α → sProp 𝕄} {kk : PUnit → Prog (TpuEff nD τ sig (Elt F) Λ₀ .tc) α} :
    env m ρ K
      ⊢ iprop(gh c j -∗ db c j -∗ pt b c (box s k o R) fullShare.right (Cc m ρ b c) -∗ ow c (Oto c (n + 1)) -∗ ((fl c j ∗ ow c (Oto c n)) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (regM b s k o R hb hq) (.remote (Dev.tc n' : Thread nD τ) (regM b (s + 1) k o R hb' hq') (.dma sS) hsc) (.dma sV) hsrc hdst hsem) kk) Q) := by
  subst hd hS hV
  simp only [Prod.mk.injEq] at hj
  obtain ⟨hb1, hs1, hk1, ho1, hR1⟩ := hj
  have hcr : credit R = Nj j := by rw [hR1]; rfl
  have hsB : srcB j = box s k o R := by rw [hs1, hk1, ho1, hR1]
  have hdB : dstB j = box (s + 1) k o R := by rw [hs1, hk1, ho1, hR1]
  rw [Oto_succ c j n hn]
  unfold gh db ow fl
  rw [← hb1, hdB]
  iintro #HE ⟨HtS, HtV, HaS, HaV, HcV⟩ ⟨%fd, Hd⟩ Hs ⟨%W, HO⟩ Hk
  ihave #HIs := (env_inv m ρ K (c, some (j, false))) $$ HE
  ihave #HIv := (env_inv m ρ K (tgt b c, some (j, true))) $$ HE
  ihave #HRs := (env_reached m ρ K (c, some (j, false))) $$ HE
  ihave #HRv := (env_reached m ρ K (tgt b c, some (j, true))) $$ HE
  cases b
  · ihave Hs := (Entails.of_eq (pt_reg_false c s k o R hb hq _ _)) $$ Hs
    ihave Hd := (Entails.of_eq (pt_reg_false (tgt false c) (s + 1) k o R hb' hq' _ _)) $$ Hd
    iapply (Rounds.wp_send_pointsTo 𝒱₀ ER (sched m ρ) (c : Thread nD τ) none (κ₁ := K (c, some (j, false))) (κ₂ := K (tgt false c, some (j, true)))
      (defs := defs₀ (F := F)) (Es := Set.univ) (Q := Q) (k := kk)
      (src := regM false s k o R hb hq) (dst := regM false (s + 1) k o R hb' hq') (c' := (tgt false c : Thread nD τ)) (sS := .dma (ssem j)) (sem := .dma (rsem j))
      (hsc := hsc) (hsrc := hsrc) (hdst := hdst) (hsem := hsem) (q := fullShare.right) (fs := Cc m ρ false c)
      (r₁ := 0) (r₂ := 0) (d₁ := false) (d₂ := false) (fd := fd)
      (by rw [duties_s m ρ c j]; exact Finset.mem_singleton_self _) (by rw [duties_r m ρ (tgt false c) j]; exact Finset.mem_singleton_self _)
      () () (Nj j) ((credit_regM false (s + 1) k o R hb' hq').trans hcr) (amount_s m ρ c j false) (amount_r m ρ (tgt false c) j false) (Oto c n) rfl (W := W)
      (by rw [payload_s]; unfold sPay; rw [← hb1, hsB, pt_reg_false c s k o R hb hq])
      (by rw [payload_r]; unfold rPay; rw [← hb1, hdB]; rw [pointsTo_congr (land_false m ρ c hb hq hb' hq' fd), pt_reg_false (tgt false c) (s + 1) k o R hb' hq'])) $$ [Hs Hd HO HtS HtV]
    · isplitr; · iexact HIs
      isplitr; · iexact HIv
      isplitl [Hs]; · iexact Hs
      isplitl [Hd]; · iexact Hd
      isplitl [HO]; · iexact HO
      isplitl [HtS]; · iexact HtS
      isplitr; · iexact HRs
      isplitl [HtV]; · iexact HtV
      iexact HRv
    iintro ⟨Hc, HO⟩
    iapply Hk
    isplitr [HO]
    · isplitl [Hc]; · iexact Hc
      isplitl [HaS]; · iexact HaS
      isplitl [HaV] <;> iassumption
    · iexists W; iexact HO
  · ihave Hs := (Entails.of_eq (pt_reg_true c s k o R hb hq _ _)) $$ Hs
    ihave Hd := (Entails.of_eq (pt_reg_true (tgt true c) (s + 1) k o R hb' hq' _ _)) $$ Hd
    iapply (Rounds.wp_send_pointsTo 𝒱₀ ER (sched m ρ) (c : Thread nD τ) none (κ₁ := K (c, some (j, false))) (κ₂ := K (tgt true c, some (j, true)))
      (defs := defs₀ (F := F)) (Es := Set.univ) (Q := Q) (k := kk)
      (src := regM true s k o R hb hq) (dst := regM true (s + 1) k o R hb' hq') (c' := (tgt true c : Thread nD τ)) (sS := .dma (ssem j)) (sem := .dma (rsem j))
      (hsc := hsc) (hsrc := hsrc) (hdst := hdst) (hsem := hsem) (q := fullShare.right) (fs := Cc m ρ true c)
      (r₁ := 0) (r₂ := 0) (d₁ := false) (d₂ := false) (fd := fd)
      (by rw [duties_s m ρ c j]; exact Finset.mem_singleton_self _) (by rw [duties_r m ρ (tgt true c) j]; exact Finset.mem_singleton_self _)
      () () (Nj j) ((credit_regM true (s + 1) k o R hb' hq').trans hcr) (amount_s m ρ c j false) (amount_r m ρ (tgt true c) j false) (Oto c n) rfl (W := W)
      (by rw [payload_s]; unfold sPay; rw [← hb1, hsB, pt_reg_true c s k o R hb hq])
      (by rw [payload_r]; unfold rPay; rw [← hb1, hdB]; rw [pointsTo_congr (land_true m ρ c hb hq hb' hq' fd), pt_reg_true (tgt true c) (s + 1) k o R hb' hq'])) $$ [Hs Hd HO HtS HtV]
    · isplitr; · iexact HIs
      isplitr; · iexact HIv
      isplitl [Hs]; · iexact Hs
      isplitl [Hd]; · iexact Hd
      isplitl [HO]; · iexact HO
      isplitl [HtS]; · iexact HtS
      isplitr; · iexact HRs
      isplitl [HtV]; · iexact HtV
      iexact HRv
    iintro ⟨Hc, HO⟩
    iapply Hk
    isplitr [HO]
    · isplitl [Hc]; · iexact Hc
      isplitl [HaS]; · iexact HaS
      isplitl [HaV] <;> iassumption
    · iexists W; iexact HO

/-! ## The waits -/

/-- Waiting for the end of transfer `j`'s sending, the last `n` transfers still to start. -/
theorem wp_wait_s (c : Dev nD) (j : Fin 16) (n : ℕ) (hn : n + j.val < 16) {q : DmaSem sig} (hq : q = ssem j)
    {sp₁ sp₂ : Space} {s₁ s₂ : Shape} {e : EltTy} {src : Memref sig .tc sp₁ s₁ e} {dst : Memref sig .tc sp₂ s₂ e} {hsrc : src.view.WordExact} {hdst : dst.view.WordExact}
    (hN : dst.view.dmaCredit = Nj j)
    {α : Type} {Q : α → sProp 𝕄} {kk : PUnit → Prog (TpuEff nD τ sig (Elt F) Λ₀ .tc) α} :
    iprop(env m ρ K ∗ cred (tallyAt (sCell c j) () (Nj j)) ∗ atPos ER (sCell c j) 0 ∅ 0 ∗ ow c (Oto c n))
      ⊢ iprop(((atPos ER (sCell c j) (0 + 1) ∅ 0 ∗ sPay m ρ j c ∗ ow c (Oto c n)) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 q src dst hsrc hdst) kk) Q) := by
  subst hq
  unfold ow
  iintro ⟨#HE, Hc, Hat, ⟨%W, HO⟩⟩ Hk
  ihave #HI := (env_inv m ρ K (c, some (j, false))) $$ HE
  ihave #HL := (env_lev m ρ K) $$ HE
  iapply (Rounds.wp_wait_rest_token 𝒱₀ ER (sched m ρ) (c : Thread nD τ) none (κ := K (c, some (j, false)))
      (wpE_waitDma2_eq 𝒱₀ (c : Thread nD τ) none Set.univ) (Set.mem_univ _) () (O := Oto c n) (W := W) (R := 0) (m := 0) (T := ∅)
      (by rw [Nat.zero_add, hN, expect_s m ρ c j])) $$ [Hc HO Hat]
  · rw [hN]
    isplitr; · iexact HI
    isplitl [Hc]; · iexact Hc
    isplitl [HO]; · iexact HO
    isplitr; · iapply (mayWait_of_lt c (.dma (ssem j)) n (2 + j.val) (by omega) (by rw [lv_s]; omega) (by omega)); iexact HL
    iexact Hat
  iintro ⟨HO, Hat, -, Hpay⟩
  iapply Hk
  isplitl [Hat]; · iexact Hat
  isplitl [Hpay]; · iapply (Entails.of_eq (rest_s m ρ c j)); iexact Hpay
  iexists _; iexact HO

/-- Waiting for its landing. -/
theorem wp_wait_r (c : Dev nD) (j : Fin 16) (n : ℕ) (hn : n + j.val < 16) {q : DmaSem sig} (hq : q = rsem j)
    {sp₁ sp₂ : Space} {s₁ s₂ : Shape} {e : EltTy} {src : Memref sig .tc sp₁ s₁ e} {dst : Memref sig .tc sp₂ s₂ e} {hsrc : src.view.WordExact} {hdst : dst.view.WordExact}
    (hN : dst.view.dmaCredit = Nj j)
    {α : Type} {Q : α → sProp 𝕄} {kk : PUnit → Prog (TpuEff nD τ sig (Elt F) Λ₀ .tc) α} :
    iprop(env m ρ K ∗ cred (tallyAt (rCell c j) () (Nj j)) ∗ atPos ER (rCell c j) 0 ∅ 0 ∗ ow c (Oto c n))
      ⊢ iprop(((atPos ER (rCell c j) (0 + 1) ∅ 0 ∗ rPay m ρ j c ∗ ow c (Oto c n)) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 q src dst hsrc hdst) kk) Q) := by
  subst hq
  unfold ow
  iintro ⟨#HE, Hc, Hat, ⟨%W, HO⟩⟩ Hk
  ihave #HI := (env_inv m ρ K (c, some (j, true))) $$ HE
  ihave #HL := (env_lev m ρ K) $$ HE
  iapply (Rounds.wp_wait_rest_token 𝒱₀ ER (sched m ρ) (c : Thread nD τ) none (κ := K (c, some (j, true)))
      (wpE_waitDma2_eq 𝒱₀ (c : Thread nD τ) none Set.univ) (Set.mem_univ _) () (O := Oto c n) (W := W) (R := 0) (m := 0) (T := ∅)
      (by rw [Nat.zero_add, hN, expect_r m ρ c j])) $$ [Hc HO Hat]
  · rw [hN]
    isplitr; · iexact HI
    isplitl [Hc]; · iexact Hc
    isplitl [HO]; · iexact HO
    isplitr; · iapply (mayWait_of_lt c (.dma (rsem j)) n (2 + j.val) (by omega) (by rw [lv_r]) (by omega)); iexact HL
    iexact Hat
  iintro ⟨HO, Hat, -, Hpay⟩
  iapply Hk
  isplitl [Hat]; · iexact Hat
  isplitl [Hpay]; · iapply (Entails.of_eq (rest_r m ρ c j)); iexact Hpay
  iexists _; iexact HO

/-- What waiting for both ends of transfer `j` leaves, apart from the landed box. -/
def ended (c : Dev nD) (j : Fin 16) : sProp 𝕄 := iprop(dn c j ∗ sPay m ρ j c)

/-- Both waits in a row. -/
theorem wp_ends (c : Dev nD) (j : Fin 16) (n : ℕ) (hn : n + j.val < 16) {q q' : DmaSem sig} (hqs : q = ssem j) (hqr : q' = rsem j)
    {b : Bool} {s k o R : ℕ} {hb hq hb' hq'} (hR : R = jr j)
    {sp₁ sp₂ : Space} {s₁ s₂ : Shape} {src : Memref sig .tc sp₁ s₁ .i8} {src' : Memref sig .tc sp₂ s₂ .i8}
    {hsrc : src.view.WordExact} {hdst : (regM b s k o R hb hq).view.WordExact} {hsrc' : src'.view.WordExact} {hdst' : (regM b (s + 1) k o R hb' hq').view.WordExact}
    {α : Type} {Q : α → sProp 𝕄} {kk : PUnit → Prog (TpuEff nD τ sig (Elt F) Λ₀ .tc) α} :
    env m ρ K
      ⊢ iprop(fl c j -∗ ow c (Oto c n) -∗ ((ended m ρ c j ∗ rPay m ρ j c ∗ ow c (Oto c n)) -∗ wp frame (wpE (defs₀ (F := F)) 𝒱₀ (c : Thread nD τ) none) Set.univ (kk ⟨⟩) Q)
          -∗ wp frame (wpE (defs₀ (F := F)) 𝒱₀ (c : Thread nD τ) none) Set.univ
            (.op (.waitDma2 q src (regM b s k o R hb hq) hsrc hdst) fun _ => .op (.waitDma2 q' src' (regM b (s + 1) k o R hb' hq') hsrc' hdst') kk) Q) := by
  unfold fl ended dn
  iintro #HE ⟨Hcs, Has, Har, Hcr⟩ HO Hk
  iapply (wp_wait_s m ρ K c j n hn hqs ((credit_regM _ _ _ _ _ _ _).trans (by rw [hR]; rfl))) $$ [Hcs Has HO]
  · isplitr; · iexact HE
    isplitl [Hcs]; · iexact Hcs
    isplitl [Has] <;> iassumption
  iintro ⟨Has, Hs, HO⟩
  iapply (wp_wait_r m ρ K c j n hn hqr ((credit_regM _ _ _ _ _ _ _).trans (by rw [hR]; rfl))) $$ [Hcr Har HO]
  · isplitr; · iexact HE
    isplitl [Hcr]; · iexact Hcr
    isplitl [Har] <;> iassumption
  iintro ⟨Har, Hr, HO⟩
  iapply Hk
  isplitl [Has Har Hs]
  · isplitl [Has Har]
    · isplitl [Has] <;> iassumption
    · iexact Hs
  isplitl [Hr] <;> iassumption

/-- What the box transfer `i` filled leaves when transfer `j` lends the right share of a part of it. -/
def kept (c : Dev nD) (i j : Fin 16) : sProp 𝕄 :=
  iprop(pt (jb i) c (dstB i) fullShare.left (Cc m ρ (jb i) c) ∗ pt (jb i) c (dstB i \ srcB j) fullShare.right (Cc m ρ (jb i) c))

theorem src_sub_dst (i j : Fin 16) (hij : i.val + 4 = j.val) : srcB j ⊆ dstB i := by
  intro x hx
  rw [mem_box] at hx ⊢
  obtain ⟨h0, h1, h2, h3⟩ := hx
  have hx2 : (x 2).val < 1024 := (x 2).isLt
  have hj := j.isLt
  refine ⟨?_, ?_, ?_, ?_⟩
  · rw [h0]; show j.val / 4 = i.val / 4 + 1; omega
  · rw [h1]; show j.val / 2 % 2 = i.val / 2 % 2; omega
  · have : jo i = 0 := if_pos (by omega)
    omega
  · have h : jo i = 0 := if_pos (by omega)
    have h' : jr i = 1024 := if_pos (by omega)
    omega

/-- The middle of the kernel: wait for both ends of transfer `i`, then start transfer `j` from the box it filled. -/
theorem wp_hop (c n' : Dev nD) (i j : Fin 16) (n : ℕ) (hn : n + j.val = 15) (hij : i.val + 4 = j.val) {b : Bool} {s k o R : ℕ}
    (hj : (b, s + 1, k, o, R) = (jb j, js j, jk j, jo j, jr j)) (hd : n' = tgt b c) {hb hq hb' hq'}
    {q q' : DmaSem sig} (hqs : q = ssem i) (hqr : q' = rsem i)
    {oi Ri : ℕ} (hR : Ri = jr i) {hbi hqi hbi' hqi'}
    {sp₁ sp₂ : Space} {s₁ s₂ : Shape} {src : Memref sig .tc sp₁ s₁ .i8} {src' : Memref sig .tc sp₂ s₂ .i8}
    {hsrc₁ : src.view.WordExact} {hdst₁ : (regM b s k oi Ri hbi hqi).view.WordExact} {hsrc₂ : src'.view.WordExact} {hdst₂ : (regM b (s + 1) k oi Ri hbi' hqi').view.WordExact}
    {sS sV : DmaSem sig} (hS : sS = ssem j) (hV : sV = rsem j)
    {hsc : (regM b (s + 1 + 1) k o R hb' hq').view.ref.isScScratch = false}
    {hsrc : (regM b (s + 1) k o R hb hq).view.WordExact} {hdst : (regM b (s + 1 + 1) k o R hb' hq').view.WordExact}
    {hsem : DmaTarget.Typed .vmem (.dma sV) (.remote (Dev.tc n' : Thread nD τ) (regM b (s + 1 + 1) k o R hb' hq') (.dma sS) hsc)}
    {α : Type} {Q : α → sProp 𝕄} {kk : PUnit → Prog (TpuEff nD τ sig (Elt F) Λ₀ .tc) α} :
    env m ρ K
      ⊢ iprop(fl c i -∗ gh c j -∗ db c j -∗ ow c (Oto c (n + 1)) -∗ ((ended m ρ c i ∗ kept m ρ c i j ∗ fl c j ∗ ow c (Oto c n)) -∗ wp frame (wpE (defs₀ (F := F)) 𝒱₀ (c : Thread nD τ) none) Set.univ (kk ⟨⟩) Q)
          -∗ wp frame (wpE (defs₀ (F := F)) 𝒱₀ (c : Thread nD τ) none) Set.univ
              (.op (.waitDma2 q src (regM b s k oi Ri hbi hqi) hsrc₁ hdst₁) fun _ => .op (.waitDma2 q' src' (regM b (s + 1) k oi Ri hbi' hqi') hsrc₂ hdst₂) fun _ =>
                .op (.enqueueDma (regM b (s + 1) k o R hb hq) (.remote (Dev.tc n' : Thread nD τ) (regM b (s + 1 + 1) k o R hb' hq') (.dma sS) hsc) (.dma sV) hsrc hdst hsem) kk) Q) := by
  have hjb : jb i = jb j := by show (i.val % 2 == 0) = (j.val % 2 == 0); congr 1; omega
  have hsub := src_sub_dst i j hij
  have hsB : srcB j = box (s + 1) k o R ∧ b = jb j := by
    simp only [Prod.mk.injEq] at hj
    obtain ⟨hb1, hs1, hk1, ho1, hR1⟩ := hj
    exact ⟨by rw [hs1, hk1, ho1, hR1], hb1⟩
  iintro #HE Hf Hg Hd HO Hk
  iapply (wp_ends m ρ K c i (n + 1) (by omega) hqs hqr hR) $$ HE Hf HO
  iintro ⟨He, Hr, HO⟩
  unfold rPay
  ihave H2 := (pt_halves (jb i) c (dstB i) (Cc m ρ (jb i) c)).1 $$ Hr
  icases H2 with ⟨Hl, Hr⟩
  ihave H2 := (pt_split (jb i) c fullShare.right (Cc m ρ (jb i) c) hsub).1 $$ Hr
  icases H2 with ⟨Hs, Hr⟩
  iapply (wp_start m ρ K c n' j n hn hj hd hS hV) $$ HE Hg Hd [Hs] HO
  · rw [hsB.2, ← hjb, ← hsB.1]; iexact Hs
  iintro ⟨Hf, HO⟩
  iapply Hk
  isplitl [He]; · iexact He
  unfold kept
  isplitl [Hl Hr]; · isplitl [Hl] <;> iassumption
  isplitl [Hf] <;> iassumption

/-- Once transfer `j`'s share is back, the box transfer `i` filled is whole again. -/
theorem kept_back (c : Dev nD) (i j : Fin 16) (hij : i.val + 4 = j.val) :
    iprop(kept m ρ c i j ∗ sPay m ρ j c) ⊢ rPay m ρ i c := by
  have hjb : jb j = jb i := by show (j.val % 2 == 0) = (i.val % 2 == 0); congr 1; omega
  have hsub := src_sub_dst i j hij
  unfold kept sPay rPay
  rw [hjb]
  iintro ⟨⟨Hl, Hr⟩, Hs⟩
  ihave Hr := (pt_split (jb i) c fullShare.right (Cc m ρ (jb i) c) hsub).2 $$ [Hs Hr]
  · isplitl [Hs] <;> iassumption
  iapply (pt_halves (jb i) c (dstB i) (Cc m ρ (jb i) c)).2
  isplitl [Hl] <;> iassumption

end Cert.KernelIdeal.TwoRings

end
-- ==== Proof.Access.lean ====
/-
# The kernel's loads and stores

A load of a box the device holds a share of, at whatever the box holds; the store that fills a chunk of slot 0 with the
device's own quantised block; and the closing of all the device's cells at the end.
-/
module

public import proofs.«01_k».proof.Proof.Xfer
public import Idealize.ShloMosaic.Lib.ValueLayout

@[expose] public section

noncomputable section

namespace Cert.KernelIdeal.TwoRings

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (ρ : Dev nD → PrngReg)

/-! ## Loads -/

/-- Chunk `k` of slot `s`, rows `o ..< o + R`, as a load reads it. -/
def rd (s k o R : ℕ) (hb : ∀ a, (![s, k, o, 0] : Fin 4 → ℕ) a + (![1, 1, R, 128] : Fin 4 → ℕ) a ≤ S5x2x1024x128.size a)
    (f : S5x2x1024x128.Idx → BitVec 8) : (⟨4, ![1, 1, R, 128]⟩ : Shape).Idx → BitVec 8 :=
  fun y => f ((Rect.unit (s := S5x2x1024x128) ![s, k, o, 0] (![1, 1, R, 128] : Fin 4 → ℕ) hb).emb y)

/-- A load of a box, from any assertion `P` that holds a share of it. -/
theorem wp_rd {P : sProp 𝕄} (b : Bool) (c : Dev nD) {S : Finset S5x2x1024x128.Idx} {q : PosShare TreeShare} {f : S5x2x1024x128.Idx → BitVec 8}
    (hP : P ⊢ iprop(pt b c S q f ∗ (pt b c S q f -∗ P)))
    {s k o R : ℕ} {hb : ∀ a, (![s, k, o, 0] : Fin 4 → ℕ) a + (![1, 1, R, 128] : Fin 4 → ℕ) a ≤ S5x2x1024x128.size a} (hS : box s k o R ⊆ S)
    {hl : (scrM b).view.LoadsAt (Rect.unit (s := S5x2x1024x128) ![s, k, o, 0] (![1, 1, R, 128] : Fin 4 → ℕ) hb).toLoadRect}
    {α : Type} {Q : α → sProp 𝕄} {kk : ((⟨4, ![1, 1, R, 128]⟩ : Shape).Idx → BitVec 8) → Prog (TpuEff nD τ sig (Elt F) Λ₀ .tc) α} :
    P ⊢ iprop((P -∗ wp frame (wpE (defs₀ (F := F)) 𝒱₀ (c : Thread nD τ) none) Set.univ (kk (rd s k o R hb f)) Q)
          -∗ wp frame (wpE (defs₀ (F := F)) 𝒱₀ (c : Thread nD τ) none) Set.univ
              (.op (.load (scrM b) (Rect.unit (s := S5x2x1024x128) ![s, k, o, 0] (![1, 1, R, 128] : Fin 4 → ℕ) hb).toLoadRect hl) kk) Q) := by
  iintro HP Hk
  ihave H := hP $$ HP
  icases H with ⟨Hp, Hback⟩
  cases b
  · unfold pt
    iapply (wp_load_rect 𝒱₀ (c : Thread nD τ) none Set.univ (m := scrM false) (f := f)
      (show ((scrM false).access (Rect.unit (s := S5x2x1024x128) ![s, k, o, 0] (![1, 1, R, 128] : Fin 4 → ℕ) hb)).set ⊆ S by
        rw [← rect_box hb] at hS; exact (View.set_slice_whole _ _).subset.trans hS)) $$ Hp
    iintro Hp
    iapply Hk
    iapply Hback; iexact Hp
  · unfold pt
    iapply (wp_load_rect 𝒱₀ (c : Thread nD τ) none Set.univ (m := scrM true) (f := f)
      (show ((scrM true).access (Rect.unit (s := S5x2x1024x128) ![s, k, o, 0] (![1, 1, R, 128] : Fin 4 → ℕ) hb)).set ⊆ S by
        rw [← rect_box hb] at hS; exact (View.set_slice_whole _ _).subset.trans hS)) $$ Hp
    iintro Hp
    iapply Hk
    iapply Hback; iexact Hp

/-- A load from elements held directly, -/
theorem acc_pt (b : Bool) (c : Dev nD) (S q f) : (pt b c S q f : sProp 𝕄) ⊢ iprop(pt b c S q f ∗ (pt b c S q f -∗ pt b c S q f)) := by
  iintro H; isplitl [H]; · iexact H
  iintro H; iexact H
/-- from what transfer `i` filled and transfer `j` is reading, -/
theorem acc_kept (c : Dev nD) (i j : Fin 16) :
    kept m ρ c i j ⊢ iprop(pt (jb i) c (dstB i) fullShare.left (Cc m ρ (jb i) c) ∗ (pt (jb i) c (dstB i) fullShare.left (Cc m ρ (jb i) c) -∗ kept m ρ c i j)) := by
  unfold kept
  iintro ⟨H, Hr⟩; isplitl [H]; · iexact H
  iintro H; isplitl [H] <;> iassumption
/-- and from what transfer `i` filled. -/
theorem acc_rPay (c : Dev nD) (i : Fin 16) :
    rPay m ρ i c ⊢ iprop(pt (jb i) c (dstB i) fullShare (Cc m ρ (jb i) c) ∗ (pt (jb i) c (dstB i) fullShare (Cc m ρ (jb i) c) -∗ rPay m ρ i c)) := by
  unfold rPay; exact acc_pt _ _ _ _ _

/-! ## Slot 0 -/

/-- The stored block is the device's own quantised one. -/
theorem cast_block (v : IVec S1024x128 8) (h : S1024x128.ShapeCasts S1x1x1024x128) (y : S1x1x1024x128.Idx) :
    shapeCast S1x1x1024x128 v h y = v (fun | ⟨0, _⟩ => y 2 | ⟨1, _⟩ => y 3) := by
  refine shapeCast_apply v h y _ ?_
  rw [Shape.rowMajor_val_two, Shape.rowMajor_val_four]
  have h0 : (y 0).val = 0 := Nat.lt_one_iff.mp (y 0).isLt
  have h1 : (y 1).val = 0 := Nat.lt_one_iff.mp (y 1).isLt
  show (y 2).val * 128 + (y 3).val = (((y 0).val * 1 + (y 1).val) * 1024 + (y 2).val) * 128 + (y 3).val
  omega

/-- Chunk `k` of slot 0 is the device's own block `k`. -/
theorem Cc_zero (b : Bool) (c : Dev nD) {k : ℕ} {hb} (y : S1x1x1024x128.Idx) :
    Cc m ρ b c ((Rect.unit (s := S5x2x1024x128) ![0, k, 0, 0] (![1, 1, 1024, 128] : Fin 4 → ℕ) hb).emb y)
      = blkq m ρ k c (fun | ⟨0, _⟩ => y 2 | ⟨1, _⟩ => y 3) := by
  have h0 : (y 0).val = 0 := Nat.lt_one_iff.mp (y 0).isLt
  have h1 : (y 1).val = 0 := Nat.lt_one_iff.mp (y 1).isLt
  show blkq m ρ (k + 1 * (y 1).val) (hop b (0 + 1 * (y 0).val) c) _ = _
  rw [h0, h1]
  show blkq m ρ k c _ = _
  congr 1
  funext a
  match a with
  | ⟨0, _⟩ => exact Fin.ext (show 0 + 1 * (y 2).val = (y 2).val by omega)
  | ⟨1, _⟩ => exact Fin.ext (show 0 + 1 * (y 3).val = (y 3).val by omega)

/-- The store that fills chunk `k` of slot 0. -/
theorem wp_fill (b : Bool) (c : Dev nD) {k : ℕ} {hb : ∀ a, (![0, k, 0, 0] : Fin 4 → ℕ) a + (![1, 1, 1024, 128] : Fin 4 → ℕ) a ≤ S5x2x1024x128.size a}
    {f : S5x2x1024x128.Idx → BitVec 8} {w : S1x1x1024x128.Idx → BitVec 8} (v : IVec S1024x128 8) (h : S1024x128.ShapeCasts S1x1x1024x128)
    (hv : v = blkq m ρ k c) (hw : w = shapeCast S1x1x1024x128 v h)
    {hx : ((scrM b).access (Rect.unit (s := S5x2x1024x128) ![0, k, 0, 0] (![1, 1, 1024, 128] : Fin 4 → ℕ) hb)).Stores Finset.univ}
    {hm : (Finset.univ : Finset S1x1x1024x128.Idx) = Finset.univ ∨ ∀ a, (Rect.unit (s := S5x2x1024x128) ![0, k, 0, 0] (![1, 1, 1024, 128] : Fin 4 → ℕ) hb).stride a = 1}
    {α : Type} {Q : α → sProp 𝕄} {kk : PUnit → Prog (TpuEff nD τ sig (Elt F) Λ₀ .tc) α} :
    (pt b c (box 0 k 0 1024) fullShare f : sProp 𝕄)
      ⊢ iprop((pt b c (box 0 k 0 1024) fullShare (Cc m ρ b c) -∗ wp frame (wpE (defs₀ (F := F)) 𝒱₀ (c : Thread nD τ) none) Set.univ (kk ⟨⟩) Q)
          -∗ wp frame (wpE (defs₀ (F := F)) 𝒱₀ (c : Thread nD τ) none) Set.univ
              (.op (.store (scrM b) (Rect.unit (s := S5x2x1024x128) ![0, k, 0, 0] (![1, 1, 1024, 128] : Fin 4 → ℕ) hb) w Finset.univ hx hm) kk) Q) := by
  have hw' : ∀ y, w y = Cc m ρ b c ((Rect.unit (s := S5x2x1024x128) ![0, k, 0, 0] (![1, 1, 1024, 128] : Fin 4 → ℕ) hb).emb y) := fun y => by
    rw [Cc_zero m ρ b c y, hw, cast_block, hv]
  cases b
  · have hset : ((scrM false).access (Rect.unit (s := S5x2x1024x128) ![0, k, 0, 0] (![1, 1, 1024, 128] : Fin 4 → ℕ) hb)).set = box 0 k 0 1024 :=
      (View.set_slice_whole _ _).trans (rect_box hb)
    have hc : ∀ i ∈ box 0 k 0 1024, ((scrM false).access (Rect.unit (s := S5x2x1024x128) ![0, k, 0, 0] (![1, 1, 1024, 128] : Fin 4 → ℕ) hb)).write (Elt F) f w Finset.univ i
        = Cc m ρ false c i := by
      intro i hi; rw [← hset] at hi
      obtain ⟨x, -, rfl⟩ := Finset.mem_map.mp hi
      rw [View.write_emb_of_mem _ _ (Finset.mem_univ x)]
      exact hw' x
    iintro H Hk
    iapply (wp_store 𝒱₀ (c : Thread nD τ) none Set.univ (m := scrM false) (Mk := Finset.univ) (S := box 0 k 0 1024) (f := f) (hx := hx) (hm := hm)
      (show ((scrM false).access (Rect.unit (s := S5x2x1024x128) ![0, k, 0, 0] (![1, 1, 1024, 128] : Fin 4 → ℕ) hb)).setOn Finset.univ ⊆ box 0 k 0 1024 from hset.subset)) $$ [H]
    · unfold pt; iexact H
    iintro H
    iapply Hk
    rw [← pt_congr false c fullShare hc]
    unfold pt; iexact H
  · have hset : ((scrM true).access (Rect.unit (s := S5x2x1024x128) ![0, k, 0, 0] (![1, 1, 1024, 128] : Fin 4 → ℕ) hb)).set = box 0 k 0 1024 :=
      (View.set_slice_whole _ _).trans (rect_box hb)
    have hc : ∀ i ∈ box 0 k 0 1024, ((scrM true).access (Rect.unit (s := S5x2x1024x128) ![0, k, 0, 0] (![1, 1, 1024, 128] : Fin 4 → ℕ) hb)).write (Elt F) f w Finset.univ i
        = Cc m ρ true c i := by
      intro i hi; rw [← hset] at hi
      obtain ⟨x, -, rfl⟩ := Finset.mem_map.mp hi
      rw [View.write_emb_of_mem _ _ (Finset.mem_univ x)]
      exact hw' x
    iintro H Hk
    iapply (wp_store 𝒱₀ (c : Thread nD τ) none Set.univ (m := scrM true) (Mk := Finset.univ) (S := box 0 k 0 1024) (f := f) (hx := hx) (hm := hm)
      (show ((scrM true).access (Rect.unit (s := S5x2x1024x128) ![0, k, 0, 0] (![1, 1, 1024, 128] : Fin 4 → ℕ) hb)).setOn Finset.univ ⊆ box 0 k 0 1024 from hset.subset)) $$ [H]
    · unfold pt; iexact H
    iintro H
    iapply Hk
    rw [← pt_congr true c fullShare hc]
    unfold pt; iexact H

/-! ## The cells at the end -/

variable (K : Dev nD × Cell → ℕ)

/-- One update for each member of a family, all from what may be used again and again. -/
theorem bigSep_update {I : Type} [DecidableEq I] (S : Finset I) {R : sProp 𝕄} [BI.Persistent R] {Φ Ψ : I → sProp 𝕄}
    (h : ∀ i, iprop(R ∗ Φ i) ⊢ iprop(|={Set.univ}=> Ψ i)) : iprop(R ∗ bigSep S Φ) ⊢ iprop(|={Set.univ}=> bigSep S Ψ) := by
  induction S using Finset.induction_on with
  | empty =>
    rw [BI.bigSep_empty, BI.bigSep_empty]
    iintro ⟨-, H⟩; imodintro; iexact H
  | insert a S ha ih =>
    rw [BI.bigSep_insert ha, BI.bigSep_insert ha]
    show iprop(R ∗ (Φ a ∗ bigSep S Φ)) ⊢ iprop(|={Set.univ}=> (Ψ a ∗ bigSep S Ψ))
    iintro ⟨#HR, Ha, HS⟩
    imod (h a) $$ [Ha] with Ha
    · isplitr; · iexact HR
      iexact Ha
    imod ih $$ [HS] with HS
    · isplitr; · iexact HR
      iexact HS
    imodintro
    isplitl [Ha]; · iexact Ha
    iexact HS

/-- The two cells of a transfer close once both ends have been waited for, -/
theorem close_dn (c : Dev nD) (j : Fin 16) :
    iprop(env m ρ K ∗ dn c j) ⊢ iprop(|={Set.univ}=> (semVal (sCell c j) 0 ∗ semVal (rCell c j) 0)) := by
  unfold dn
  iintro ⟨#HE, Hs, Hr⟩
  ihave #HIs := (env_inv m ρ K (c, some (j, false))) $$ HE
  ihave #HIr := (env_inv m ρ K (c, some (j, true))) $$ HE
  imod (Rounds.cell_close ER (sched m ρ) (Set.mem_univ (K (c, some (j, false)))) (fun h => h) (R := 0 + 1) (duties_later m ρ (sCell c j))) $$ [Hs] with Hs
  · isplitr; · iexact HIs
    iexact Hs
  imod (Rounds.cell_close ER (sched m ρ) (Set.mem_univ (K (c, some (j, true)))) (fun h => h) (R := 0 + 1) (duties_later m ρ (rCell c j))) $$ [Hr] with Hr
  · isplitr; · iexact HIr
    iexact Hr
  imodintro
  isplitl [Hs] <;> iassumption
/-- and the barrier's. -/
theorem close_bar (c : Dev nD) :
    iprop(env m ρ K ∗ atPos ER (barCell c) (0 + 1) ∅ 0) ⊢ iprop(|={Set.univ}=> semVal (barCell c) 0) := by
  iintro ⟨#HE, Hs⟩
  ihave #HI := (env_inv m ρ K (c, none)) $$ HE
  imod (Rounds.cell_close ER (sched m ρ) (Set.mem_univ (K (c, none))) (fun h => h) (R := 0 + 1) (duties_later m ρ (barCell c))) $$ [Hs] with Hs
  · isplitr; · iexact HI
    iexact Hs
  imodintro
  iexact Hs

end Cert.KernelIdeal.TwoRings

end
-- ==== Proof.Body.lean ====
/-
# The body

What the kernel computes on each device (`outAt`), how its two buffers are cut up and put together again, and the body run
effect by effect from what the launch gives it to what it hands back.
-/
module

public import proofs.«01_k».proof.Proof.Access

@[expose] public section

noncomputable section

namespace Cert.KernelIdeal.TwoRings

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The result -/

/-- The loaded box as a function of what the buffer holds: chunk `k` of slot `s` of buffer `b`, whole -/
abbrev ldW (b : Bool) (s k : ℕ) (hs : s < 5) (hk : k < 2) (c : Dev nD) : Vec F S1x1x1024x128 .i8 := rd s k 0 1024 (inb_reg hs hk (le_refl _)) (Cc m ρ b c)
/-- or 512 rows of it. -/
abbrev ldH (b : Bool) (s k o : ℕ) (hs : s < 5) (hk : k < 2) (ho : o + 512 ≤ 1024) (c : Dev nD) : Vec F S1x1x512x128 .i8 := rd s k o 512 (inb_reg hs hk ho) (Cc m ρ b c)

/-- The scaled queries. -/
def qs (c : Dev nD) : FVec F S1024x128 .bf16 := k0_pay9 (qst m ρ c)

/-- The sums of the exponentials of the scores, after slot 0, -/
def l0 (c : Dev nD) : FVec F S1024x1 .f32 := k0_pay14 (qs m ρ c) k0_pay10 (k0_pay12 (ldW m ρ true 0 0 (by decide) (by decide) c))
/-- slot 1 of both buffers, -/
def l1 (c : Dev nD) : FVec F S1024x1 .f32 :=
  k0_pay20 (qs m ρ c) (l0 m ρ c) (k0_pay17 (ldW m ρ true 1 0 (by decide) (by decide) c)) (ldW m ρ false 1 0 (by decide) (by decide) c)
/-- slot 2 of both, -/
def l2 (c : Dev nD) : FVec F S1024x1 .f32 :=
  k0_pay24 (qs m ρ c) (l1 m ρ c) (ldW m ρ true 2 0 (by decide) (by decide) c) (ldW m ρ false 2 0 (by decide) (by decide) c)
/-- slot 3 of both, -/
def l3 (c : Dev nD) : FVec F S1024x1 .f32 :=
  k0_pay30 (qs m ρ c) (k0_pay27 (qs m ρ c) (l2 m ρ c) (ldW m ρ true 3 0 (by decide) (by decide) c)) (ldW m ρ false 3 0 (by decide) (by decide) c)
/-- and the two halves of slot 4. -/
def l4 (c : Dev nD) : FVec F S1024x1 .f32 :=
  k0_pay35 (qs m ρ c) (l3 m ρ c) (ldH m ρ true 4 0 0 (by decide) (by decide) (by decide) c) (ldH m ρ false 4 0 512 (by decide) (by decide) (by decide) c)

/-- The weighted sums of the values, in the same order. -/
def a0 (c : Dev nD) : FVec F S1024x128 .f32 :=
  k0_pay15 (qs m ρ c) k0_pay11 (k0_pay12 (ldW m ρ true 0 0 (by decide) (by decide) c)) (ldW m ρ true 0 1 (by decide) (by decide) c)
def a1 (c : Dev nD) : FVec F S1024x128 .f32 :=
  k0_pay21 (qs m ρ c) (a0 m ρ c) (k0_pay16 (ldW m ρ true 1 1 (by decide) (by decide) c)) (k0_pay17 (ldW m ρ true 1 0 (by decide) (by decide) c))
    (ldW m ρ false 1 0 (by decide) (by decide) c) (ldW m ρ false 1 1 (by decide) (by decide) c)
def a2 (c : Dev nD) : FVec F S1024x128 .f32 :=
  k0_pay25 (qs m ρ c) (a1 m ρ c) (ldW m ρ true 2 0 (by decide) (by decide) c) (ldW m ρ true 2 1 (by decide) (by decide) c)
    (ldW m ρ false 2 0 (by decide) (by decide) c) (ldW m ρ false 2 1 (by decide) (by decide) c)
def a3 (c : Dev nD) : FVec F S1024x128 .f32 :=
  k0_pay31 (qs m ρ c) (k0_pay28 (qs m ρ c) (a2 m ρ c) (ldW m ρ true 3 0 (by decide) (by decide) c) (ldW m ρ true 3 1 (by decide) (by decide) c))
    (ldW m ρ false 3 0 (by decide) (by decide) c) (ldW m ρ false 3 1 (by decide) (by decide) c)
/-- All but the last half of them. -/
def a4 (c : Dev nD) : FVec F S1024x128 .f32 :=
  k0_pay33 (qs m ρ c) (a3 m ρ c) (ldH m ρ true 4 0 0 (by decide) (by decide) (by decide) c) (ldH m ρ true 4 1 0 (by decide) (by decide) (by decide) c)

/-- What device `c` stores. -/
def outAt (c : Dev nD) : (cc0_stg3_0 : Ref sig .tc).ty.Contents (Elt F) :=
  k0_pay1 (a4 m ρ c) (l4 m ρ c) (k0_pay36 (qs m ρ c) (ldH m ρ false 4 0 512 (by decide) (by decide) (by decide) c))
    (k0_pay37 (ldH m ρ false 4 1 512 (by decide) (by decide) (by decide) c))

/-! ## A buffer cut up and put together -/

/-- What of a buffer the kernel never touches. -/
abbrev rst (b : Bool) : Finset S5x2x1024x128.Idx := ((Finset.univ \ land b) \ box 0 0 0 1024) \ box 0 1 0 1024

theorem box0_sub (b : Bool) : box 0 0 0 1024 ⊆ Finset.univ \ land b := by
  intro i hi
  rw [mem_box] at hi
  refine Finset.mem_sdiff.mpr ⟨Finset.mem_univ _, fun h => ?_⟩
  have := (Finset.mem_filter.mp h).2.1
  omega
theorem box1_sub (b : Bool) : box 0 1 0 1024 ⊆ (Finset.univ \ land b) \ box 0 0 0 1024 := by
  intro i hi
  rw [mem_box] at hi
  refine Finset.mem_sdiff.mpr ⟨Finset.mem_sdiff.mpr ⟨Finset.mem_univ _, fun h => ?_⟩, fun h => ?_⟩
  · have := (Finset.mem_filter.mp h).2.1
    omega
  · rw [mem_box] at h; omega

theorem pt_cut (b : Bool) (c : Dev nD) (f) :
    (pt b c Finset.univ fullShare f : sProp 𝕄)
      ⊢ iprop(pt b c (box 0 0 0 1024) fullShare f ∗ pt b c (box 0 1 0 1024) fullShare f ∗ pt b c (land b) fullShare f ∗ pt b c (rst b) fullShare f) := by
  iintro H
  ihave H := (pt_split b c fullShare f (Finset.subset_univ (land b))).1 $$ H
  icases H with ⟨Hl, H⟩
  ihave H := (pt_split b c fullShare f (box0_sub b)).1 $$ H
  icases H with ⟨H0, H⟩
  ihave H := (pt_split b c fullShare f (box1_sub b)).1 $$ H
  icases H with ⟨H1, H⟩
  isplitl [H0]; · iexact H0
  isplitl [H1]; · iexact H1
  isplitl [Hl] <;> iassumption

theorem pt_join (b : Bool) (c : Dev nD) {I S : Finset S5x2x1024x128.Idx} (f g) (h : I ⊆ S) :
    iprop(pt b c I fullShare f ∗ pt b c (S \ I) fullShare g) ⊢ iprop(∃ k, pt (F := F) b c S fullShare k) := by
  have h1 : (pt b c I fullShare f : sProp 𝕄) = pt b c I fullShare (fun i => if i ∈ I then f i else g i) :=
    pt_congr b c _ fun i hi => (if_pos hi).symm
  have h2 : (pt b c (S \ I) fullShare g : sProp 𝕄) = pt b c (S \ I) fullShare (fun i => if i ∈ I then f i else g i) :=
    pt_congr b c _ fun i hi => (if_neg (Finset.mem_sdiff.mp hi).2).symm
  rw [h1, h2]
  iintro H
  iexists _
  iapply (pt_split b c fullShare _ h).2
  iexact H

theorem pt_paste (b : Bool) (c : Dev nD) (f g h k) :
    iprop(pt b c (box 0 0 0 1024) fullShare f ∗ pt b c (box 0 1 0 1024) fullShare g ∗ pt b c (land b) fullShare h ∗ pt b c (rst b) fullShare k)
      ⊢ iprop(∃ f, pt (F := F) b c Finset.univ fullShare f) := by
  iintro ⟨H0, H1, Hl, H⟩
  ihave H := (pt_join b c _ _ (box1_sub b)) $$ [H1 H]
  · isplitl [H1] <;> iassumption
  icases H with ⟨%f1, H⟩
  ihave H := (pt_join b c _ _ (box0_sub b)) $$ [H0 H]
  · isplitl [H0] <;> iassumption
  icases H with ⟨%f2, H⟩
  iapply (pt_join b c _ _ (Finset.subset_univ (land b)))
  isplitl [Hl] <;> iassumption

/-- The transfers, by buffer. -/
def jEquiv : Fin 8 × Bool ≃ Fin 16 where
  toFun p := jOf p.2 p.1
  invFun j := (⟨j.val / 2, by omega⟩, jb j)
  left_inv p := by revert p; decide
  right_inv j := by revert j; decide

theorem by_buffer (Φ : Fin 16 → sProp 𝕄) :
    bigSep Finset.univ Φ = iprop((bigSep Finset.univ fun t : Fin 8 => Φ (jOf true t)) ∗ bigSep Finset.univ fun t : Fin 8 => Φ (jOf false t)) := by
  rw [bigSep_univ_equiv jEquiv, bigSep_univ_prod, ← bigSep_sep']
  refine bigSep_congr fun t _ => ?_
  rw [bigSep_univ_eq_bigSepL [true, false] (by decide) (by decide), bigSepL_cons_cons, bigSepL_singleton]
  rfl

theorem jb_jOf (b : Bool) (t : Fin 8) : jb (jOf b t) = b := by revert t; cases b <;> decide

theorem db_introT (c : Dev nD) (t : Fin 8) (g) : (pt true (nxt c) (dstB (jOf true t)) fullShare g : sProp 𝕄) ⊢ db (F := F) c (jOf true t) := by
  unfold db; rw [jb_jOf]; iintro H; iexists g; iexact H
theorem db_introF (c : Dev nD) (t : Fin 8) (g) : (pt false (prv c) (dstB (jOf false t)) fullShare g : sProp 𝕄) ⊢ db (F := F) c (jOf false t) := by
  unfold db; rw [jb_jOf]; iintro H; iexists g; iexact H
theorem db_of_T (c : Dev nD) : barPayT c ⊢ bigSep Finset.univ fun t : Fin 8 => db (F := F) c (jOf true t) := by
  unfold barPayT
  refine BIClass.exists_elim fun g => ?_
  rw [pt_land]
  exact bigSep_mono fun t _ => db_introT c t g
theorem db_of_F (c : Dev nD) : barPayF c ⊢ bigSep Finset.univ fun t : Fin 8 => db (F := F) c (jOf false t) := by
  unfold barPayF
  refine BIClass.exists_elim fun g => ?_
  rw [pt_land]
  exact bigSep_mono fun t _ => db_introF c t g
/-- What the barrier brings is a box of a neighbour for every transfer. -/
theorem db_of_bar (c : Dev nD) : iprop(barPayF c ∗ barPayT c) ⊢ bigSep Finset.univ (db (F := F) c) := by
  rw [by_buffer]
  iintro ⟨Hf, Ht⟩
  isplitl [Ht]
  · iapply (db_of_T c); iexact Ht
  · iapply (db_of_F c); iexact Hf

/-- What all landings left is what they write, of both buffers. -/
theorem land_of_rPay (c : Dev nD) :
    bigSep Finset.univ (fun j => rPay m ρ j c) ⊢ iprop(pt true c (land true) fullShare (Cc m ρ true c) ∗ pt false c (land false) fullShare (Cc m ρ false c)) := by
  rw [by_buffer, pt_land, pt_land]
  refine BI.sep_mono (bigSep_mono fun t _ => ?_) (bigSep_mono fun t _ => ?_)
  · unfold rPay; rw [jb_jOf]; exact BI.Entails.refl _
  · unfold rPay; rw [jb_jOf]; exact BI.Entails.refl _

/-- Sixteen of a kind, one by one. -/
theorem sixteen (Φ : Fin 16 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) := by
  rw [bigSep_univ_eq_bigSepL [0, 1, 2, 3, 4, 5, 6, 7, 8, 9, 10, 11, 12, 13, 14, 15] (by decide) (by decide)]
  rfl

/-! ## The body -/

section Body

variable (K : Dev nD × Cell → ℕ)

/-- What the launch gives device `c` besides its buffers. -/
def start (c : Dev nD) : sProp 𝕄 :=
  iprop(∃ K, env m ρ K ∗ bigSep Finset.univ (gh c) ∗ atPos ER (barCell c) 0 ∅ 0 ∗ cred (tallyAt (barCell c) () 2)
    ∗ dutyTok ER (barCell (prv c)) 0 true ∗ dutyTok ER (barCell (nxt c)) 0 false)

def Φ₀ (c : Dev nD) : sProp 𝕄 :=
  iprop(start m ρ c ∗ (∃ f, pt true c Finset.univ fullShare f) ∗ ∃ f, pt false c Finset.univ fullShare f)
def Φ₁ (c : Dev nD) : sProp 𝕄 :=
  iprop((∃ f, pt true c Finset.univ fullShare f) ∗ (∃ f, pt false c Finset.univ fullShare f)
    ∗ semVal (barCell c) 0 ∗ bigSep Finset.univ fun j : Fin 16 => iprop(semVal (sCell c j) 0 ∗ semVal (rCell c j) 0))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => qst m ρ c
    | ⟨1, _⟩ => kst m ρ c
    | ⟨2, _⟩ => vst m ρ c
    | ⟨3, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem hz : (![0, 0] : Fin 2 → Nat) = fun _ => 0 := funext fun a => by fin_cases a <;> rfl

def bodyPre (c : Dev nD) : sProp 𝕄 :=
  iprop(Φ₀ m ρ c ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))

def bodyPost (c : Dev nD) : sProp 𝕄 :=
  iprop(Φ₁ c ∗ (dats m ρ 0 c).owesAt () t0_0.succ ∗ stg c cc0_stg0_0 (qst m ρ c) ∗ stg c cc0_stg1_0 (kst m ρ c)
    ∗ stg c cc0_stg2_0 (vst m ρ c) ∗ stg c cc0_stg3_0 (outAt m ρ c))

theorem blkq_k (c : Dev nD) : k0_pay3 (k0_pay2 (kst m ρ c)) = blkq m ρ 0 c := rfl
theorem blkq_v (c : Dev nD) : k0_pay4 (vst m ρ c) = blkq m ρ 1 c := rfl

/-- The loads of the three whole blocks. -/
theorem wp_rd_q (c : Dev nD) (f : Buf (Elt F) ((c : Thread nD τ).loc cc0_stg0_0))
    {hl : (qM : Memref sig .tc .vmem S1024x128 .bf16).view.LoadsAt (Rect.unit (s := S1024x128) ![0, 0] S1024x128.size inb_S1024x128_S1024x128_0_0).toLoadRect}
    {α : Type} {Q : α → sProp 𝕄} {kk : FVec F S1024x128 .bf16 → Prog (TpuEff nD τ sig (Elt F) Λ₀ .tc) α} :
    (((c : Thread nD τ).loc cc0_stg0_0) ↦{fullShare} f : sProp 𝕄)
      ⊢ iprop(((((c : Thread nD τ).loc cc0_stg0_0) ↦{fullShare} f) -∗ wp frame (wpE (defs₀ (F := F)) 𝒱₀ (c : Thread nD τ) none) Set.univ (kk f) Q)
          -∗ wp frame (wpE (defs₀ (F := F)) 𝒱₀ (c : Thread nD τ) none) Set.univ
              (.op (.load qM (Rect.unit (s := S1024x128) ![0, 0] S1024x128.size inb_S1024x128_S1024x128_0_0).toLoadRect hl) kk) Q) := by
  iintro H Hk
  iapply (wp_load 𝒱₀ (c : Thread nD τ) none Set.univ (m := qM) (Finset.subset_univ _)) $$ H; iintro H
  rw [show (qM : Memref sig .tc .vmem S1024x128 .bf16).view.readAt (Elt F) (Rect.unit (s := S1024x128) ![0, 0] S1024x128.size inb_S1024x128_S1024x128_0_0).toLoadRect f = f
    from Memref.readAt_unit_zero (Elt F) cc0_stg0_0 hz _ _]
  iapply Hk; iexact H
theorem wp_rd_k (c : Dev nD) (f : Buf (Elt F) ((c : Thread nD τ).loc cc0_stg1_0))
    {hl : (kM : Memref sig .tc .vmem S1024x128 .bf16).view.LoadsAt (Rect.unit (s := S1024x128) ![0, 0] S1024x128.size inb_S1024x128_S1024x128_0_0).toLoadRect}
    {α : Type} {Q : α → sProp 𝕄} {kk : FVec F S1024x128 .bf16 → Prog (TpuEff nD τ sig (Elt F) Λ₀ .tc) α} :
    (((c : Thread nD τ).loc cc0_stg1_0) ↦{fullShare} f : sProp 𝕄)
      ⊢ iprop(((((c : Thread nD τ).loc cc0_stg1_0) ↦{fullShare} f) -∗ wp frame (wpE (defs₀ (F := F)) 𝒱₀ (c : Thread nD τ) none) Set.univ (kk f) Q)
          -∗ wp frame (wpE (defs₀ (F := F)) 𝒱₀ (c : Thread nD τ) none) Set.univ
              (.op (.load kM (Rect.unit (s := S1024x128) ![0, 0] S1024x128.size inb_S1024x128_S1024x128_0_0).toLoadRect hl) kk) Q) := by
  iintro H Hk
  iapply (wp_load 𝒱₀ (c : Thread nD τ) none Set.univ (m := kM) (Finset.subset_univ _)) $$ H; iintro H
  rw [show (kM : Memref sig .tc .vmem S1024x128 .bf16).view.readAt (Elt F) (Rect.unit (s := S1024x128) ![0, 0] S1024x128.size inb_S1024x128_S1024x128_0_0).toLoadRect f = f
    from Memref.readAt_unit_zero (Elt F) cc0_stg1_0 hz _ _]
  iapply Hk; iexact H
theorem wp_rd_v (c : Dev nD) (f : Buf (Elt F) ((c : Thread nD τ).loc cc0_stg2_0))
    {hl : (vM : Memref sig .tc .vmem S1024x128 .bf16).view.LoadsAt (Rect.unit (s := S1024x128) ![0, 0] S1024x128.size inb_S1024x128_S1024x128_0_0).toLoadRect}
    {α : Type} {Q : α → sProp 𝕄} {kk : FVec F S1024x128 .bf16 → Prog (TpuEff nD τ sig (Elt F) Λ₀ .tc) α} :
    (((c : Thread nD τ).loc cc0_stg2_0) ↦{fullShare} f : sProp 𝕄)
      ⊢ iprop(((((c : Thread nD τ).loc cc0_stg2_0) ↦{fullShare} f) -∗ wp frame (wpE (defs₀ (F := F)) 𝒱₀ (c : Thread nD τ) none) Set.univ (kk f) Q)
          -∗ wp frame (wpE (defs₀ (F := F)) 𝒱₀ (c : Thread nD τ) none) Set.univ
              (.op (.load vM (Rect.unit (s := S1024x128) ![0, 0] S1024x128.size inb_S1024x128_S1024x128_0_0).toLoadRect hl) kk) Q) := by
  iintro H Hk
  iapply (wp_load 𝒱₀ (c : Thread nD τ) none Set.univ (m := vM) (Finset.subset_univ _)) $$ H; iintro H
  rw [show (vM : Memref sig .tc .vmem S1024x128 .bf16).view.readAt (Elt F) (Rect.unit (s := S1024x128) ![0, 0] S1024x128.size inb_S1024x128_S1024x128_0_0).toLoadRect f = f
    from Memref.readAt_unit_zero (Elt F) cc0_stg2_0 hz _ _]
  iapply Hk; iexact H

/-- A load from what transfer `i` filled while transfer `j` reads it, at the box's own numbers, -/
theorem acc_kept' (c : Dev nD) (i j : Fin 16) {b : Bool} {s k o R : ℕ} (hi : (b, s, k, o, R) = (jb i, js i + 1, jk i, jo i, jr i)) :
    kept m ρ c i j ⊢ iprop(pt b c (box s k o R) fullShare.left (Cc m ρ b c) ∗ (pt b c (box s k o R) fullShare.left (Cc m ρ b c) -∗ kept m ρ c i j)) := by
  simp only [Prod.mk.injEq] at hi
  obtain ⟨hb, hs, hk, ho, hR⟩ := hi
  rw [hb, hs, hk, ho, hR]
  exact acc_kept m ρ c i j
/-- and from what it filled. -/
theorem acc_rPay' (c : Dev nD) (i : Fin 16) {b : Bool} {s k o R : ℕ} (hi : (b, s, k, o, R) = (jb i, js i + 1, jk i, jo i, jr i)) :
    rPay m ρ i c ⊢ iprop(pt b c (box s k o R) fullShare (Cc m ρ b c) ∗ (pt b c (box s k o R) fullShare (Cc m ρ b c) -∗ rPay m ρ i c)) := by
  simp only [Prod.mk.injEq] at hi
  obtain ⟨hb, hs, hk, ho, hR⟩ := hi
  rw [hb, hs, hk, ho, hR]
  exact acc_rPay m ρ c i

/-- The box transfer `i` filled, whole again. -/
theorem filled_back (c : Dev nD) (i j : Fin 16) (hij : i.val + 4 = j.val) : kept m ρ c i j ⊢ iprop(sPay m ρ j c -∗ rPay m ρ i c) := by
  iintro H Hs
  iapply (kept_back m ρ c i j hij)
  isplitl [H] <;> iassumption
/-- A chunk of slot 0, whole again. -/
theorem slot0_back (c : Dev nD) (j : Fin 16) {b : Bool} {k : ℕ} (hj : (b, 0, k, 0, 1024) = (jb j, js j, jk j, jo j, jr j)) :
    (pt b c (box 0 k 0 1024) fullShare.left (Cc m ρ b c) : sProp 𝕄) ⊢ iprop(sPay m ρ j c -∗ pt b c (box 0 k 0 1024) fullShare (Cc m ρ b c)) := by
  simp only [Prod.mk.injEq] at hj
  obtain ⟨hb, hs, hk, ho, hR⟩ := hj
  have hB : srcB j = box 0 k 0 1024 := by show box (js j) (jk j) (jo j) (jr j) = _; rw [← hs, ← hk, ← ho, ← hR]
  unfold sPay
  rw [hB, ← hb]
  iintro H Hs
  iapply (pt_halves b c _ _).2
  isplitl [H] <;> iassumption

/-- Sixteen of a kind, gathered. -/
theorem gather (Φ : Fin 16 → sProp 𝕄) :
    Φ 0 ⊢ iprop(Φ 1 -∗ Φ 2 -∗ Φ 3 -∗ Φ 4 -∗ Φ 5 -∗ Φ 6 -∗ Φ 7 -∗ Φ 8 -∗ Φ 9 -∗ Φ 10 -∗ Φ 11 -∗ Φ 12 -∗ Φ 13 -∗ Φ 14 -∗ Φ 15 -∗ bigSep Finset.univ Φ) := by
  rw [sixteen]
  iintro H0 H1 H2 H3 H4 H5 H6 H7 H8 H9 H10 H11 H12 H13 H14 H15
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The store of the result. -/
theorem wp_wr_o (c : Dev nD) (f : Buf (Elt F) ((c : Thread nD τ).loc cc0_stg3_0)) {w : FVec F S1024x128 .f32}
    {hx : ((oM : Memref sig .tc .vmem S1024x128 .f32).access (Rect.unit (s := S1024x128) ![0, 0] S1024x128.size inb_S1024x128_S1024x128_0_0)).Stores Finset.univ}
    {hm : (Finset.univ : Finset S1024x128.Idx) = Finset.univ ∨ ∀ a, (Rect.unit (s := S1024x128) ![0, 0] S1024x128.size inb_S1024x128_S1024x128_0_0).stride a = 1}
    {α : Type} {Q : α → sProp 𝕄} {kk : PUnit → Prog (TpuEff nD τ sig (Elt F) Λ₀ .tc) α} :
    (((c : Thread nD τ).loc cc0_stg3_0) ↦{fullShare} f : sProp 𝕄)
      ⊢ iprop(((((c : Thread nD τ).loc cc0_stg3_0) ↦{fullShare} (w : Buf (Elt F) ((c : Thread nD τ).loc cc0_stg3_0))) -∗ wp frame (wpE (defs₀ (F := F)) 𝒱₀ (c : Thread nD τ) none) Set.univ (kk ⟨⟩) Q)
          -∗ wp frame (wpE (defs₀ (F := F)) 𝒱₀ (c : Thread nD τ) none) Set.univ
              (.op (.store oM (Rect.unit (s := S1024x128) ![0, 0] S1024x128.size inb_S1024x128_S1024x128_0_0) w Finset.univ hx hm) kk) Q) := by
  iintro H Hk
  iapply (wp_store 𝒱₀ (c : Thread nD τ) none Set.univ (m := oM) (r := Rect.unit (s := S1024x128) ![0, 0] S1024x128.size inb_S1024x128_S1024x128_0_0) (Mk := Finset.univ) (hx := hx) (hm := hm)
    (Finset.subset_univ _)) $$ H; iintro H
  rw [show ((oM : Memref sig .tc .vmem S1024x128 .f32).access (Rect.unit (s := S1024x128) ![0, 0] S1024x128.size inb_S1024x128_S1024x128_0_0)).write (Elt F) f w Finset.univ = w
    from Memref.write_access_unit_zero_univ (Elt F) cc0_stg3_0 hz _ f w]
  iapply Hk; iexact H

/-- The device each transfer goes to. -/
theorem to_0 (c : Dev nD) : (⟨k0_dev3 c, k0_dev3_lt c⟩ : Dev nD) = tgt true c := Fin.ext ((k0_dev3_eq c).trans (on_val c))
theorem to_1 (c : Dev nD) : (⟨k0_dev4 c, k0_dev4_lt c⟩ : Dev nD) = tgt false c := Fin.ext ((k0_dev4_eq c).trans (back_val c))
theorem to_2 (c : Dev nD) : (⟨k0_dev5 c, k0_dev5_lt c⟩ : Dev nD) = tgt true c := Fin.ext ((k0_dev5_eq c).trans (on_val c))
theorem to_3 (c : Dev nD) : (⟨k0_dev6 c, k0_dev6_lt c⟩ : Dev nD) = tgt false c := Fin.ext ((k0_dev6_eq c).trans (back_val c))
theorem to_4 (c : Dev nD) : (⟨k0_dev7 c, k0_dev7_lt c⟩ : Dev nD) = tgt true c := Fin.ext ((k0_dev7_eq c).trans (on_val c))
theorem to_5 (c : Dev nD) : (⟨k0_dev8 c, k0_dev8_lt c⟩ : Dev nD) = tgt false c := Fin.ext ((k0_dev8_eq c).trans (back_val c))
theorem to_6 (c : Dev nD) : (⟨k0_dev9 c, k0_dev9_lt c⟩ : Dev nD) = tgt true c := Fin.ext ((k0_dev9_eq c).trans (on_val c))
theorem to_7 (c : Dev nD) : (⟨k0_dev10 c, k0_dev10_lt c⟩ : Dev nD) = tgt false c := Fin.ext ((k0_dev10_eq c).trans (back_val c))
theorem to_8 (c : Dev nD) : (⟨k0_dev11 c, k0_dev11_lt c⟩ : Dev nD) = tgt true c := Fin.ext ((k0_dev11_eq c).trans (on_val c))
theorem to_9 (c : Dev nD) : (⟨k0_dev12 c, k0_dev12_lt c⟩ : Dev nD) = tgt false c := Fin.ext ((k0_dev12_eq c).trans (back_val c))
theorem to_10 (c : Dev nD) : (⟨k0_dev13 c, k0_dev13_lt c⟩ : Dev nD) = tgt true c := Fin.ext ((k0_dev13_eq c).trans (on_val c))
theorem to_11 (c : Dev nD) : (⟨k0_dev14 c, k0_dev14_lt c⟩ : Dev nD) = tgt false c := Fin.ext ((k0_dev14_eq c).trans (back_val c))
theorem to_12 (c : Dev nD) : (⟨k0_dev15 c, k0_dev15_lt c⟩ : Dev nD) = tgt true c := Fin.ext ((k0_dev15_eq c).trans (on_val c))
theorem to_13 (c : Dev nD) : (⟨k0_dev16 c, k0_dev16_lt c⟩ : Dev nD) = tgt false c := Fin.ext ((k0_dev16_eq c).trans (back_val c))
theorem to_14 (c : Dev nD) : (⟨k0_dev17 c, k0_dev17_lt c⟩ : Dev nD) = tgt true c := Fin.ext ((k0_dev17_eq c).trans (on_val c))
theorem to_15 (c : Dev nD) : (⟨k0_dev18 c, k0_dev18_lt c⟩ : Dev nD) = tgt false c := Fin.ext ((k0_dev18_eq c).trans (back_val c))

/-- The wait at the barrier, owing every landing: it brings a box of a neighbour for each transfer. -/
theorem wp_bar (c : Dev nD) {sm : Sem sig} (hsm : sm = barS) {α : Type} {Q : α → sProp 𝕄} {kk : PUnit → Prog (TpuEff nD τ sig (Elt F) Λ₀ .tc) α} :
    iprop(env m ρ K ∗ cred (tallyAt (barCell c) () 2) ∗ atPos ER (barCell c) 0 ∅ 0 ∗ ow c (Oto c 16))
      ⊢ iprop(((atPos ER (barCell c) (0 + 1) ∅ 0 ∗ bigSep Finset.univ (db c) ∗ ow c (Oto c 16)) -∗ wp frame (wpE (defs₀ (F := F)) 𝒱₀ (c : Thread nD τ) none) Set.univ (kk ⟨⟩) Q)
          -∗ wp frame (wpE (defs₀ (F := F)) 𝒱₀ (c : Thread nD τ) none) Set.univ (.op (.semWait sm (2#32 : BitVec 32).toInt) kk) Q) := by
  subst hsm
  unfold ow
  iintro ⟨#HE, HcB, HatB, ⟨%W, HO⟩⟩ Hk
  ihave #HIc := (env_inv m ρ K (c, none)) $$ HE
  iapply (Rounds.wp_wait_rest_token 𝒱₀ ER (sched m ρ) (c : Thread nD τ) none (κ := K (c, none)) (wpE_semWait_eq 𝒱₀ (c : Thread nD τ) none Set.univ)
      (Set.mem_univ _) () (O := Oto c 16) (W := W) (R := 0) (m := 0) (T := ∅) (expect_bar m ρ c).symm) $$ [HcB HO HatB]
  · isplitr; · iexact HIc
    isplitl [HcB]; · iexact HcB
    isplitl [HO]; · iexact HO
    isplitr
    · iapply (mayWait_of_lt c (.reg barS) 16 1 (le_refl _) (le_of_eq (lv_bar c ())) (by decide))
      iapply (env_lev m ρ K); iexact HE
    iexact HatB
  iintro ⟨HO, HatB, -, Hpay⟩
  iapply Hk
  isplitl [HatB]; · iexact HatB
  isplitl [Hpay]
  · iapply (db_of_bar c); iapply (Entails.of_eq (rest_bar m ρ c)); iexact Hpay
  iexists _; iexact HO

set_option maxHeartbeats 4000000 in
theorem sound_body (c : Dev nD) (Kt : PUnit → sProp 𝕄) :
    iprop(bodyPre m ρ c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) (Memref.whole cc0_scratch1) (Memref.isWhole_whole _) cc0_scratch2 cc0_scratch3 cc0_scratch4 cc0_scratch5) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel
  simp only [semSignalWord, semWaitWord, Prog.lift, Prog.bind_op, Prog.bind_ret, Prog.pure_eq_ret, Prog.bind_assoc, wp_deviceId]
  unfold bodyPre Φ₀ start
  iintro ⟨⟨⟨⟨%K, #HE, Hgh, HatB, HcB, HtT, HtF⟩, ⟨%ft, Hbt⟩, ⟨%ff, Hbf⟩⟩, Ho, ⟨%d0, %g0, %hg0, Hq⟩, ⟨%d1, %g1, %hg1, Hkk⟩, ⟨%d2, %g2, %hg2, Hv⟩, ⟨%d3, %g3, %hg3, Hout⟩⟩, Hk⟩
  have hx0 : g0 = qst m ρ c := by rw [hg0]; unfold Dat.before; rw [if_pos (fetch0_0 t0_0)]; rfl
  have hx1 : g1 = kst m ρ c := by rw [hg1]; unfold Dat.before; rw [if_pos (fetch0_1 t0_0)]; rfl
  have hx2 : g2 = vst m ρ c := by rw [hg2]; unfold Dat.before; rw [if_pos (fetch0_2 t0_0)]; rfl
  subst hx0 hx1 hx2
  unfold Dat.owesAt Pipeline.owesWithin
  icases Ho with ⟨%W, %hW, HO⟩
  rw [show (dats m ρ 0 c).owed t0_0.castSucc = O₀ c from rfl]
  ihave Hbt := (pt_cut true c ft) $$ Hbt
  icases Hbt with ⟨Ht0, Ht1, Htl, Htr⟩
  ihave Hbf := (pt_cut false c ff) $$ Hbf
  icases Hbf with ⟨Hf0, Hf1, Hfl, Hfr⟩
  simp only [dev_sig1 c, dev_sig2 c]
  -- the first signal, to the previous device
  ihave #HIp := (env_inv m ρ K (prv c, none)) $$ HE
  ihave #HRp := (env_reached m ρ K (prv c, none)) $$ HE
  ihave #HIn := (env_inv m ρ K (nxt c, none)) $$ HE
  ihave #HRn := (env_reached m ρ K (nxt c, none)) $$ HE
  ihave #HIc := (env_inv m ρ K (c, none)) $$ HE
  unfold O₀
  iapply (Rounds.wp_signal 𝒱₀ ER (sched m ρ) (c : Thread nD τ) none (dst := (prv c : Thread nD τ)) (κ := K (prv c, none))
      (d := true) (by rw [duties_bar]; exact Finset.mem_univ _) ((amount_bar m ρ (prv c) true).trans (by decide)) () (O₁ c) rfl)
    $$ [HO HtT Htl]
  · isplitr; · iexact HIp
    isplitl [HO]; · iexact HO
    isplitl [HtT]; · iexact HtT
    isplitl [Htl]
    · rw [payload_barT]; unfold barPayT; rw [nxt_prv]; iexists ft; iexact Htl
    · iexact HRp
  iintro HO
  -- the second, to the next one
  unfold O₁
  iapply (Rounds.wp_signal 𝒱₀ ER (sched m ρ) (c : Thread nD τ) none (dst := (nxt c : Thread nD τ)) (κ := K (nxt c, none))
      (d := false) (by rw [duties_bar]; exact Finset.mem_univ _) ((amount_bar m ρ (nxt c) false).trans (by decide)) () (Oto c 16) rfl)
    $$ [HO HtF Hfl]
  · isplitr; · iexact HIn
    isplitl [HO]; · iexact HO
    isplitl [HtF]; · iexact HtF
    isplitl [Hfl]
    · rw [payload_barF]; unfold barPayF; rw [prv_nxt]; iexists ff; iexact Hfl
    · iexact HRn
  iintro HO
  -- the barrier
  iapply (wp_bar m ρ K c rfl) $$ [HcB HO HatB]
  · isplitr; · iexact HE
    isplitl [HcB]; · iexact HcB
    isplitl [HatB]; · iexact HatB
    unfold ow; iexists W; iexact HO
  iintro ⟨HatB, Hdb, HO⟩
  ihave Hdb := (Entails.of_eq (sixteen (db (F := F) c))) $$ Hdb
  ihave Hgh := (Entails.of_eq (sixteen (gh (F := F) c))) $$ Hgh
  icases Hdb with ⟨Hd0, Hd1, Hd2, Hd3, Hd4, Hd5, Hd6, Hd7, Hd8, Hd9, Hd10, Hd11, Hd12, Hd13, Hd14, Hd15⟩
  icases Hgh with ⟨Hg0, Hg1, Hg2, Hg3, Hg4, Hg5, Hg6, Hg7, Hg8, Hg9, Hg10, Hg11, Hg12, Hg13, Hg14, Hg15⟩
  -- the key and value blocks, quantised into slot 0
  iapply (wp_rd_k c _) $$ Hkk; iintro Hkk
  iapply (wp_rd_v c _) $$ Hv; iintro Hv
  iapply (wp_rd true c (acc_pt true c (box 0 0 0 1024) fullShare ft) (fun _ h => h)) $$ Ht0; iintro Ht0
  iapply (wp_fill m ρ true c (k := 0) (k0_pay3 (k0_pay2 (kst m ρ c))) shapeCasts_S1024x128_S1x1x1024x128 (blkq_k m ρ c) rfl) $$ Ht0; iintro Ht0
  iapply (wp_rd true c (acc_pt true c (box 0 1 0 1024) fullShare ft) (fun _ h => h)) $$ Ht1; iintro Ht1
  iapply (wp_fill m ρ true c (k := 1) (k0_pay4 (vst m ρ c)) shapeCasts_S1024x128_S1x1x1024x128 (blkq_v m ρ c) rfl) $$ Ht1; iintro Ht1
  iapply (wp_rd false c (acc_pt false c (box 0 0 0 1024) fullShare ff) (fun _ h => h)) $$ Hf0; iintro Hf0
  iapply (wp_fill m ρ false c (k := 0) (k0_pay3 (k0_pay2 (kst m ρ c))) shapeCasts_S1024x128_S1x1x1024x128 (blkq_k m ρ c) rfl) $$ Hf0; iintro Hf0
  iapply (wp_rd false c (acc_pt false c (box 0 1 0 1024) fullShare ff) (fun _ h => h)) $$ Hf1; iintro Hf1
  iapply (wp_fill m ρ false c (k := 1) (k0_pay4 (vst m ρ c)) shapeCasts_S1024x128_S1x1x1024x128 (blkq_v m ρ c) rfl) $$ Hf1; iintro Hf1
  -- half of each lent to the first four transfers
  ihave Ht0 := (pt_halves true c _ _).1 $$ Ht0
  icases Ht0 with ⟨Ht0, Ht0'⟩
  ihave Ht1 := (pt_halves true c _ _).1 $$ Ht1
  icases Ht1 with ⟨Ht1, Ht1'⟩
  ihave Hf0 := (pt_halves false c _ _).1 $$ Hf0
  icases Hf0 with ⟨Hf0, Hf0'⟩
  ihave Hf1 := (pt_halves false c _ _).1 $$ Hf1
  icases Hf1 with ⟨Hf1, Hf1'⟩
  iapply (wp_rd_q c _) $$ Hq; iintro Hq
  iapply (wp_start m ρ K c _ 0 15 rfl (b := true) (s := 0) (k := 0) (o := 0) (R := 1024) rfl (to_0 c) rfl rfl) $$ HE Hg0 Hd0 Ht0' HO; iintro ⟨Hfl0, HO⟩
  iapply (wp_start m ρ K c _ 1 14 rfl (b := false) (s := 0) (k := 0) (o := 0) (R := 1024) rfl (to_1 c) rfl rfl) $$ HE Hg1 Hd1 Hf0' HO; iintro ⟨Hfl1, HO⟩
  iapply (wp_start m ρ K c _ 2 13 rfl (b := true) (s := 0) (k := 1) (o := 0) (R := 1024) rfl (to_2 c) rfl rfl) $$ HE Hg2 Hd2 Ht1' HO; iintro ⟨Hfl2, HO⟩
  iapply (wp_start m ρ K c _ 3 12 rfl (b := false) (s := 0) (k := 1) (o := 0) (R := 1024) rfl (to_3 c) rfl rfl) $$ HE Hg3 Hd3 Hf1' HO; iintro ⟨Hfl3, HO⟩
  -- slot 0 is read
  iapply (wp_rd true c (acc_pt true c (box 0 0 0 1024) fullShare.left (Cc m ρ true c)) (fun _ h => h)) $$ Ht0; iintro Ht0
  iapply (wp_rd true c (acc_pt true c (box 0 1 0 1024) fullShare.left (Cc m ρ true c)) (fun _ h => h)) $$ Ht1; iintro Ht1
  -- slot 1 has landed, and is passed on and read
  iapply (wp_hop m ρ K c _ 0 4 11 rfl rfl (b := true) (s := 0) (k := 0) (o := 0) (R := 1024) rfl (to_4 c) rfl rfl (oi := 0) (Ri := 1024) rfl rfl rfl) $$ HE Hfl0 Hg4 Hd4 HO; iintro ⟨He0, HK0, Hfl4, HO⟩
  iapply (wp_hop m ρ K c _ 1 5 10 rfl rfl (b := false) (s := 0) (k := 0) (o := 0) (R := 1024) rfl (to_5 c) rfl rfl (oi := 0) (Ri := 1024) rfl rfl rfl) $$ HE Hfl1 Hg5 Hd5 HO; iintro ⟨He1, HK1, Hfl5, HO⟩
  iapply (wp_hop m ρ K c _ 2 6 9 rfl rfl (b := true) (s := 0) (k := 1) (o := 0) (R := 1024) rfl (to_6 c) rfl rfl (oi := 0) (Ri := 1024) rfl rfl rfl) $$ HE Hfl2 Hg6 Hd6 HO; iintro ⟨He2, HK2, Hfl6, HO⟩
  iapply (wp_hop m ρ K c _ 3 7 8 rfl rfl (b := false) (s := 0) (k := 1) (o := 0) (R := 1024) rfl (to_7 c) rfl rfl (oi := 0) (Ri := 1024) rfl rfl rfl) $$ HE Hfl3 Hg7 Hd7 HO; iintro ⟨He3, HK3, Hfl7, HO⟩
  iapply (wp_rd true c (acc_kept' m ρ c 0 4 (b := true) (s := 1) (k := 0) (o := 0) (R := 1024) rfl) (fun _ h => h)) $$ HK0; iintro HK0
  iapply (wp_rd true c (acc_kept' m ρ c 2 6 (b := true) (s := 1) (k := 1) (o := 0) (R := 1024) rfl) (fun _ h => h)) $$ HK2; iintro HK2
  iapply (wp_rd false c (acc_kept' m ρ c 1 5 (b := false) (s := 1) (k := 0) (o := 0) (R := 1024) rfl) (fun _ h => h)) $$ HK1; iintro HK1
  iapply (wp_rd false c (acc_kept' m ρ c 3 7 (b := false) (s := 1) (k := 1) (o := 0) (R := 1024) rfl) (fun _ h => h)) $$ HK3; iintro HK3
  -- slot 2 has landed, and is passed on and read
  iapply (wp_hop m ρ K c _ 4 8 7 rfl rfl (b := true) (s := 1) (k := 0) (o := 0) (R := 1024) rfl (to_8 c) rfl rfl (oi := 0) (Ri := 1024) rfl rfl rfl) $$ HE Hfl4 Hg8 Hd8 HO; iintro ⟨He4, HK4, Hfl8, HO⟩
  iapply (wp_hop m ρ K c _ 5 9 6 rfl rfl (b := false) (s := 1) (k := 0) (o := 0) (R := 1024) rfl (to_9 c) rfl rfl (oi := 0) (Ri := 1024) rfl rfl rfl) $$ HE Hfl5 Hg9 Hd9 HO; iintro ⟨He5, HK5, Hfl9, HO⟩
  iapply (wp_hop m ρ K c _ 6 10 5 rfl rfl (b := true) (s := 1) (k := 1) (o := 0) (R := 1024) rfl (to_10 c) rfl rfl (oi := 0) (Ri := 1024) rfl rfl rfl) $$ HE Hfl6 Hg10 Hd10 HO; iintro ⟨He6, HK6, Hfl10, HO⟩
  iapply (wp_hop m ρ K c _ 7 11 4 rfl rfl (b := false) (s := 1) (k := 1) (o := 0) (R := 1024) rfl (to_11 c) rfl rfl (oi := 0) (Ri := 1024) rfl rfl rfl) $$ HE Hfl7 Hg11 Hd11 HO; iintro ⟨He7, HK7, Hfl11, HO⟩
  iapply (wp_rd true c (acc_kept' m ρ c 4 8 (b := true) (s := 2) (k := 0) (o := 0) (R := 1024) rfl) (fun _ h => h)) $$ HK4; iintro HK4
  iapply (wp_rd true c (acc_kept' m ρ c 6 10 (b := true) (s := 2) (k := 1) (o := 0) (R := 1024) rfl) (fun _ h => h)) $$ HK6; iintro HK6
  iapply (wp_rd false c (acc_kept' m ρ c 5 9 (b := false) (s := 2) (k := 0) (o := 0) (R := 1024) rfl) (fun _ h => h)) $$ HK5; iintro HK5
  iapply (wp_rd false c (acc_kept' m ρ c 7 11 (b := false) (s := 2) (k := 1) (o := 0) (R := 1024) rfl) (fun _ h => h)) $$ HK7; iintro HK7
  -- slot 3 has landed, and is passed on and read
  iapply (wp_hop m ρ K c _ 8 12 3 rfl rfl (b := true) (s := 2) (k := 0) (o := 0) (R := 512) rfl (to_12 c) rfl rfl (oi := 0) (Ri := 1024) rfl rfl rfl) $$ HE Hfl8 Hg12 Hd12 HO; iintro ⟨He8, HK8, Hfl12, HO⟩
  iapply (wp_hop m ρ K c _ 9 13 2 rfl rfl (b := false) (s := 2) (k := 0) (o := 512) (R := 512) rfl (to_13 c) rfl rfl (oi := 0) (Ri := 1024) rfl rfl rfl) $$ HE Hfl9 Hg13 Hd13 HO; iintro ⟨He9, HK9, Hfl13, HO⟩
  iapply (wp_hop m ρ K c _ 10 14 1 rfl rfl (b := true) (s := 2) (k := 1) (o := 0) (R := 512) rfl (to_14 c) rfl rfl (oi := 0) (Ri := 1024) rfl rfl rfl) $$ HE Hfl10 Hg14 Hd14 HO; iintro ⟨He10, HK10, Hfl14, HO⟩
  iapply (wp_hop m ρ K c _ 11 15 0 rfl rfl (b := false) (s := 2) (k := 1) (o := 512) (R := 512) rfl (to_15 c) rfl rfl (oi := 0) (Ri := 1024) rfl rfl rfl) $$ HE Hfl11 Hg15 Hd15 HO; iintro ⟨He11, HK11, Hfl15, HO⟩
  iapply (wp_rd true c (acc_kept' m ρ c 8 12 (b := true) (s := 3) (k := 0) (o := 0) (R := 1024) rfl) (fun _ h => h)) $$ HK8; iintro HK8
  iapply (wp_rd true c (acc_kept' m ρ c 10 14 (b := true) (s := 3) (k := 1) (o := 0) (R := 1024) rfl) (fun _ h => h)) $$ HK10; iintro HK10
  iapply (wp_rd false c (acc_kept' m ρ c 9 13 (b := false) (s := 3) (k := 0) (o := 0) (R := 1024) rfl) (fun _ h => h)) $$ HK9; iintro HK9
  iapply (wp_rd false c (acc_kept' m ρ c 11 15 (b := false) (s := 3) (k := 1) (o := 0) (R := 1024) rfl) (fun _ h => h)) $$ HK11; iintro HK11
  -- slot 4 has landed
  iapply (wp_ends m ρ K c 12 0 (by decide) rfl rfl (b := true) (s := 3) (k := 0) (o := 0) (R := 512) rfl) $$ HE Hfl12 HO; iintro ⟨He12, Hr12, HO⟩
  iapply (wp_ends m ρ K c 13 0 (by decide) rfl rfl (b := false) (s := 3) (k := 0) (o := 512) (R := 512) rfl) $$ HE Hfl13 HO; iintro ⟨He13, Hr13, HO⟩
  iapply (wp_ends m ρ K c 14 0 (by decide) rfl rfl (b := true) (s := 3) (k := 1) (o := 0) (R := 512) rfl) $$ HE Hfl14 HO; iintro ⟨He14, Hr14, HO⟩
  iapply (wp_ends m ρ K c 15 0 (by decide) rfl rfl (b := false) (s := 3) (k := 1) (o := 512) (R := 512) rfl) $$ HE Hfl15 HO; iintro ⟨He15, Hr15, HO⟩
  iapply (wp_rd true c (acc_rPay' m ρ c 12 (b := true) (s := 4) (k := 0) (o := 0) (R := 512) rfl) (fun _ h => h)) $$ Hr12; iintro Hr12
  iapply (wp_rd true c (acc_rPay' m ρ c 14 (b := true) (s := 4) (k := 1) (o := 0) (R := 512) rfl) (fun _ h => h)) $$ Hr14; iintro Hr14
  iapply (wp_rd false c (acc_rPay' m ρ c 13 (b := false) (s := 4) (k := 0) (o := 512) (R := 512) rfl) (fun _ h => h)) $$ Hr13; iintro Hr13
  iapply (wp_rd false c (acc_rPay' m ρ c 15 (b := false) (s := 4) (k := 1) (o := 512) (R := 512) rfl) (fun _ h => h)) $$ Hr15; iintro Hr15
  -- the result
  iapply (wp_load 𝒱₀ (c : Thread nD τ) none Set.univ (m := oM) (Finset.subset_univ _)) $$ Hout; iintro Hout
  iapply (wp_wr_o c _) $$ Hout; iintro Hout
  -- everything lent is back
  unfold ended
  icases He0 with ⟨Hn0, Hs0⟩
  icases He1 with ⟨Hn1, Hs1⟩
  icases He2 with ⟨Hn2, Hs2⟩
  icases He3 with ⟨Hn3, Hs3⟩
  icases He4 with ⟨Hn4, Hs4⟩
  icases He5 with ⟨Hn5, Hs5⟩
  icases He6 with ⟨Hn6, Hs6⟩
  icases He7 with ⟨Hn7, Hs7⟩
  icases He8 with ⟨Hn8, Hs8⟩
  icases He9 with ⟨Hn9, Hs9⟩
  icases He10 with ⟨Hn10, Hs10⟩
  icases He11 with ⟨Hn11, Hs11⟩
  icases He12 with ⟨Hn12, Hs12⟩
  icases He13 with ⟨Hn13, Hs13⟩
  icases He14 with ⟨Hn14, Hs14⟩
  icases He15 with ⟨Hn15, Hs15⟩
  ihave Hr0 := (filled_back m ρ c 0 4 rfl) $$ HK0 Hs4
  ihave Hr1 := (filled_back m ρ c 1 5 rfl) $$ HK1 Hs5
  ihave Hr2 := (filled_back m ρ c 2 6 rfl) $$ HK2 Hs6
  ihave Hr3 := (filled_back m ρ c 3 7 rfl) $$ HK3 Hs7
  ihave Hr4 := (filled_back m ρ c 4 8 rfl) $$ HK4 Hs8
  ihave Hr5 := (filled_back m ρ c 5 9 rfl) $$ HK5 Hs9
  ihave Hr6 := (filled_back m ρ c 6 10 rfl) $$ HK6 Hs10
  ihave Hr7 := (filled_back m ρ c 7 11 rfl) $$ HK7 Hs11
  ihave Hr8 := (filled_back m ρ c 8 12 rfl) $$ HK8 Hs12
  ihave Hr9 := (filled_back m ρ c 9 13 rfl) $$ HK9 Hs13
  ihave Hr10 := (filled_back m ρ c 10 14 rfl) $$ HK10 Hs14
  ihave Hr11 := (filled_back m ρ c 11 15 rfl) $$ HK11 Hs15
  ihave Ht0 := (slot0_back m ρ c 0 (b := true) (k := 0) rfl) $$ Ht0 Hs0
  ihave Hf0 := (slot0_back m ρ c 1 (b := false) (k := 0) rfl) $$ Hf0 Hs1
  ihave Ht1 := (slot0_back m ρ c 2 (b := true) (k := 1) rfl) $$ Ht1 Hs2
  ihave Hf1 := (slot0_back m ρ c 3 (b := false) (k := 1) rfl) $$ Hf1 Hs3
  ihave Hr := (gather (fun j => rPay m ρ j c)) $$ Hr0 Hr1 Hr2 Hr3 Hr4 Hr5 Hr6 Hr7 Hr8 Hr9 Hr10 Hr11 Hr12 Hr13 Hr14 Hr15
  ihave Hn := (gather (dn (F := F) c)) $$ Hn0 Hn1 Hn2 Hn3 Hn4 Hn5 Hn6 Hn7 Hn8 Hn9 Hn10 Hn11 Hn12 Hn13 Hn14 Hn15
  ihave Hr := (land_of_rPay m ρ c) $$ Hr
  icases Hr with ⟨Htl, Hfl⟩
  ihave Ht := (pt_paste true c _ _ _ _) $$ [Ht0 Ht1 Htl Htr]
  · isplitl [Ht0]; · iexact Ht0
    isplitl [Ht1]; · iexact Ht1
    isplitl [Htl] <;> iassumption
  ihave Hf := (pt_paste false c _ _ _ _) $$ [Hf0 Hf1 Hfl Hfr]
  · isplitl [Hf0]; · iexact Hf0
    isplitl [Hf1]; · iexact Hf1
    isplitl [Hfl] <;> iassumption
  -- the cells close
  imod (close_bar m ρ K c) $$ [HatB] with Hz
  · isplitr; · iexact HE
    iexact HatB
  imod (bigSep_update Finset.univ (R := env m ρ K) (fun j => close_dn m ρ K c j)) $$ [Hn] with Hzs
  · isplitr; · iexact HE
    iexact Hn
  rw [wp_ret]; imodintro
  iapply Hk
  unfold bodyPost Φ₁ Dat.owesAt Pipeline.owesWithin
  rw [show (dats m ρ 0 c).owed t0_0.succ = 0 from rfl]
  isplitl [Ht Hf Hz Hzs]
  · isplitl [Ht]; · iexact Ht
    isplitl [Hf]; · iexact Hf
    isplitl [Hz] <;> iassumption
  isplitl [HO]
  · unfold ow
    icases HO with ⟨%W', HO⟩
    iexists W'
    isplitr; · ipureintro; exact fun _ _ => Or.inl trivial
    iexact HO
  isplitl [Hq]
  · iexists _; isplitr; · (ipureintro; rfl)
    iexact Hq
  isplitl [Hkk]
  · iexists _; isplitr; · (ipureintro; rfl)
    iexact Hkk
  isplitl [Hv]
  · iexists _; isplitr; · (ipureintro; rfl)
    iexact Hv
  iexists _; isplitr
  · ipureintro; rfl
  iexact Hout

end Body

end Cert.KernelIdeal.TwoRings

end
-- ==== Proof.Run.lean ====
/-
# The launch

The cells and tokens minted at the launch, dealt to the devices and passed to the neighbours that use them; what each device
owes and is credited; and the run of the whole program, its final memory and its semaphores.
-/
module

public import proofs.«01_k».proof.Proof.Body
public import Idealize.ShloMosaic.Lib.Pipeline.CollectiveSegs

@[expose] public section

noncomputable section

namespace Cert.KernelIdeal.TwoRings

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The body's obligation -/

set_option maxRecDepth 60000 in
/-- The body meets its obligation on every device. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_scratch0) (Memref.isWhole_whole _) (Memref.whole cc0_scratch1) (Memref.isWhole_whole _) cc0_scratch2 cc0_scratch3 cc0_scratch4 cc0_scratch5)
    (fun _ => bodyPost m ρ c)
  iintro H
  iapply (sound_body m ρ c fun _ => bodyPost m ρ c)
  isplitl [H]; · iexact H
  iintro H; iexact H

/-! ## Cells -/

/-- The kernel's own semaphores. -/
def osem (i : Fin 32) : SemLoc sig := .dma ⟨4 + i.val, by have := i.isLt; show _ < 36; omega⟩
theorem ownSemFacts : Pipeline.OwnSemFacts cfg0.spec osem := by decide

/-- They are the transfers' send and receive ones. -/
def semEquiv : Fin 16 × Bool ≃ Fin 32 where
  toFun p := ⟨8 * (if p.2 then 1 else 0) + 16 * (p.1.val % 2) + p.1.val / 2, by have := p.1.isLt; split <;> omega⟩
  invFun i := (⟨2 * (i.val % 8) + i.val / 16, by have := i.isLt; omega⟩, i.val / 8 % 2 == 1)
  left_inv p := by revert p; decide
  right_inv i := by revert i; decide
theorem osem_eq (j : Fin 16) (r : Bool) : osem (semEquiv (j, r)) = csem (some (j, r)) := by revert j r; decide

theorem csem_injective : Function.Injective csem := by
  rintro (_ | ⟨j, _ | _⟩) (_ | ⟨j', _ | _⟩) h
  · rfl
  · exact absurd h (by simp [csem])
  · exact absurd h (by simp [csem])
  · exact absurd h (by simp [csem])
  · have h' : ssem j = ssem j' := by simpa [csem] using h
    rw [← jof_ssem j, h', jof_ssem]
  · have h' : ssem j = rsem j' := by simpa [csem] using h
    exact absurd ((isRecv_ssem j).symm.trans (h' ▸ isRecv_rsem j')) (by decide)
  · exact absurd h (by simp [csem])
  · have h' : rsem j = ssem j' := by simpa [csem] using h
    exact absurd ((isRecv_rsem j).symm.trans (h' ▸ isRecv_ssem j')) (by decide)
  · have h' : rsem j = rsem j' := by simpa [csem] using h
    rw [← jof_rsem j, h', jof_rsem]
theorem kcell_injective : Function.Injective (kcell : Dev nD × Cell → GSem nD τ sig) := by
  rintro ⟨c, k⟩ ⟨c', k'⟩ h
  have h1 : c = c' := congrArg (fun g : GSem nD τ sig => g.1.1) h
  have h2 : k = k' := csem_injective (congrArg Prod.snd h)
  rw [h1, h2]
def ringCells : Finset (GSem nD τ sig) := Finset.univ.map ⟨kcell, kcell_injective⟩

/-- One assertion for each cell of a device. -/
theorem by_cell (Φ : Cell → sProp 𝕄) :
    bigSep Finset.univ Φ = iprop(Φ none ∗ bigSep Finset.univ fun j : Fin 16 => iprop(Φ (some (j, false)) ∗ Φ (some (j, true)))) := by
  rw [bigSep_univ_at Φ none, show (Finset.univ.erase none : Finset Cell) = Finset.univ.map Function.Embedding.some from by decide, bigSep_map, bigSep_univ_prod]
  congr 1
  refine bigSep_congr fun j _ => ?_
  rw [bigSep_univ_eq_bigSepL [false, true] (by decide) (by decide), bigSepL_cons_cons, bigSepL_singleton]
  rfl

/-! ## Duty tokens -/

/-- A device's own cells' duty tokens as minted: two for its barrier, one for each other cell. -/
def tokOf (p : Dev nD × (Bool ⊕ Fin 16 × Bool)) : GSem nD τ sig × ℕ × Bool := match p.2 with
  | .inl b => (barCell p.1, 0, b)
  | .inr q => (kcell (p.1, some q), 0, false)
theorem tokOf_injective : Function.Injective tokOf := by
  rintro ⟨c, k | k⟩ ⟨c', k' | k'⟩ h
  · have h1 : c = c' := congrArg (fun g : GSem nD τ sig × ℕ × Bool => g.1.1.1) h
    have h2 : k = k' := congrArg (fun g : GSem nD τ sig × ℕ × Bool => g.2.2) h
    rw [h1, h2]
  · have h2 : csem none = csem (some k') := congrArg (fun g : GSem nD τ sig × ℕ × Bool => g.1.2) h
    exact absurd (csem_injective h2) (by simp)
  · have h2 : csem (some k) = csem none := congrArg (fun g : GSem nD τ sig × ℕ × Bool => g.1.2) h
    exact absurd (csem_injective h2) (by simp)
  · have h2 : (c, some k) = (c', some k') := kcell_injective (congrArg (fun g : GSem nD τ sig × ℕ × Bool => g.1) h)
    have h3 : c = c' := congrArg Prod.fst h2
    have h4 : k = k' := Option.some.inj (congrArg Prod.snd h2)
    rw [h3, h4]
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- The duty tokens of device `c`'s own cells, -/
def toks (c : Dev nD) : sProp 𝕄 :=
  iprop(dutyTok ER (barCell c) 0 true ∗ dutyTok ER (barCell c) 0 false
    ∗ bigSep Finset.univ fun j : Fin 16 => iprop(dutyTok ER (sCell c j) 0 false ∗ dutyTok ER (rCell c j) 0 false))
/-- and those of the duties it discharges. -/
def payToks (c : Dev nD) : sProp 𝕄 :=
  iprop(dutyTok ER (barCell (prv c)) 0 true ∗ dutyTok ER (barCell (nxt c)) 0 false
    ∗ bigSep Finset.univ fun j : Fin 16 => iprop(dutyTok ER (sCell c j) 0 false ∗ dutyTok ER (rCell (tgt (jb j) c) j) 0 false))

/-- What the launch element deals device `c`. -/
def G (c : Dev nD) : sProp 𝕄 :=
  iprop((bigSep Finset.univ fun k : Cell => roundState ER (sched m ρ) (kcell (c, k)) 0)
    ∗ (bigSep Finset.univ fun k : Cell => iprop(atPos ER (kcell (c, k)) 0 ∅ 0 ∗ reached ER (kcell (c, k)) 0)) ∗ toks c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Cell => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    unfold toks
    rw [bigSep_univ_sum, bigSep_univ_prod, bigSep_univ_eq_bigSepL [true, false] (by decide) (by decide), bigSepL_cons_cons, bigSepL_singleton]
    refine Eq.trans ?_ (equiv_iff.mp ⟨BI.sep_assoc, BI.sep_assoc'⟩)
    congr 1
    refine bigSep_congr fun j _ => ?_
    rw [bigSep_univ_eq_bigSepL [false, true] (by decide) (by decide), bigSepL_cons_cons, bigSepL_singleton]
    rfl
  iintro HX
  imod (Rounds.fund ER (sched m ρ) ringCells ringToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem toks_around : (bigSep Finset.univ fun c : Dev nD => (toks c : sProp 𝕄)) ⊢ bigSep Finset.univ fun c : Dev nD => payToks c := by
  have hr : (bigSep Finset.univ fun c : Dev nD => bigSep Finset.univ fun j : Fin 16 => (dutyTok ER (rCell c j) 0 false : sProp 𝕄))
      = bigSep Finset.univ fun c : Dev nD => bigSep Finset.univ fun j : Fin 16 => dutyTok ER (rCell (tgt (jb j) c) j) 0 false := by
    rw [← bigSep_univ_prod fun p : Dev nD × Fin 16 => (dutyTok ER (rCell p.1 p.2) 0 false : sProp 𝕄),
      ← bigSep_univ_prod fun p : Dev nD × Fin 16 => (dutyTok ER (rCell (tgt (jb p.2) p.1) p.2) 0 false : sProp 𝕄)]
    exact bigSep_univ_equiv (⟨fun p => (tgt (jb p.2) p.1, p.2), fun p => (frm (jb p.2) p.1, p.2), fun p => by simp only [frm_tgt], fun p => by simp only [tgt_frm]⟩
      : Dev nD × Fin 16 ≃ Dev nD × Fin 16) fun p => (dutyTok ER (rCell p.1 p.2) 0 false : sProp 𝕄)
  unfold toks payToks
  simp only [bigSep_sep']
  rw [hr, bigSep_univ_equiv ring.symm (fun c : Dev nD => (dutyTok ER (barCell c) 0 true : sProp 𝕄)),
    bigSep_univ_equiv ring (fun c : Dev nD => (dutyTok ER (barCell c) 0 false : sProp 𝕄))]
  exact BI.Entails.refl _

/-! ## Semaphores -/

theorem ownSems0_eq (c : Dev nD) : (Pipeline.ownSems0 (Ix := Unit) (Name := ℕ) (U := UU) (Lvl := ℕ) (Val := Elt F) (τ := τ) osem c : sProp 𝕄)
    = bigSep Finset.univ fun j : Fin 16 => iprop(semVal (sCell c j) 0 ∗ semVal (rCell c j) 0) := by
  unfold Pipeline.ownSems0
  rw [bigSep_univ_equiv semEquiv, bigSep_univ_prod]
  refine bigSep_congr fun j _ => ?_
  rw [bigSep_univ_eq_bigSepL [false, true] (by decide) (by decide), bigSepL_cons_cons, bigSepL_singleton, osem_eq, osem_eq]
  rfl
theorem unscopedSems0_eq (c : Dev nD) : (unscopedSems0 c : sProp 𝕄) = semVal (barCell c) 0 := by
  unfold unscopedSems0; rw [bigSep_eq_bigSepL_of_eq [SemLoc.reg barS] (by decide) (by decide)]; rfl
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Cell => semVal (kcell (c, k)) 0 : sProp 𝕄) := by
  rw [ownSems0_eq, unscopedSems0_eq, by_cell]
  iintro ⟨Hs, HB⟩
  isplitl [HB]; · iexact HB
  iexact Hs

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Cell => iprop(∃ κ : ℕ, cellInv ER (sched m ρ) κ (kcell (c, k))))
          ∗ (bigSep Finset.univ fun k : Cell => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Cell => semVal (kcell (c, k)) 0) ∗ bigSep Finset.univ fun k : Cell => roundState ER (sched m ρ) (kcell (c, k)) 0)
      ⊢ (|={Set.univ}=> bigSep Finset.univ fun k : Cell => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- What everyone may use, but for the levels. -/
def records (K : Dev nD × Cell → ℕ) : sProp 𝕄 :=
  iprop((bigSep Finset.univ fun p : Dev nD × Cell => cellInv ER (sched m ρ) (K p) (kcell p))
    ∗ bigSep Finset.univ fun p : Dev nD × Cell => reached ER (kcell p) 0)
instance records_persistent (K : Dev nD × Cell → ℕ) : BI.Persistent (records m ρ K) := by unfold records; infer_instance

/-- What stays with device `c`: its positions, and the tokens of the duties it discharges. -/
def linear (c : Dev nD) : sProp 𝕄 := iprop((bigSep Finset.univ fun k : Cell => atPos ER (kcell (c, k)) 0 ∅ 0) ∗ payToks c)
def G' (c : Dev nD) : sProp 𝕄 := iprop(∃ K, records m ρ K ∗ linear c)

theorem ghost_intro (K : Dev nD × Cell → ℕ) (c : Dev nD) : iprop(records m ρ K ∗ linear c) ⊢ G' m ρ c := by
  unfold G'
  iintro H; iexists K; iexact H

theorem with_records {R : sProp 𝕄} [BI.Persistent R] {Φ Ψ : Dev nD → sProp 𝕄} (h : ∀ i, iprop(R ∗ Φ i) ⊢ Ψ i) :
    iprop(R ∗ bigSep Finset.univ Φ) ⊢ bigSep Finset.univ Ψ :=
  (sep_mono_left (BI.bigSep_of_persistent Finset.univ R)).trans (by rw [← bigSep_sep']; exact bigSep_mono fun i _ => h i)

theorem regroup :
    (bigSep Finset.univ fun c : Dev nD => iprop((bigSep Finset.univ fun k : Cell => iprop(∃ κ : ℕ, cellInv ER (sched m ρ) κ (kcell (c, k))))
          ∗ (bigSep Finset.univ fun k : Cell => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Cell => iprop(∃ κ : ℕ, cellInv ER (sched m ρ) κ (kcell ck))),
    bigSep_congr (s := Finset.univ) (fun (c : Dev nD) _ => bigSep_sep' Finset.univ (fun k : Cell => (atPos ER (kcell (c, k)) 0 ∅ 0 : sProp 𝕄)) (fun k => reached ER (kcell (c, k)) 0)),
    bigSep_sep', ← bigSep_univ_prod (fun ck : Dev nD × Cell => (reached ER (kcell ck) 0 : sProp 𝕄))]
  iintro ⟨HI, ⟨Hat, #HR⟩, Htok⟩
  ihave HK := (BI.bigSep_exists_pi Finset.univ (fun (ck : Dev nD × Cell) (κ : ℕ) => (cellInv ER (sched m ρ) κ (kcell ck) : sProp 𝕄))) $$ HI
  icases HK with ⟨%K, #HI⟩
  ihave Htk := (toks_around (F := F)) $$ Htok
  iapply (with_records (R := records m ρ K) fun c => ghost_intro m ρ K c)
  isplitr
  · unfold records; isplitl; · iexact HI
    iexact HR
  · unfold linear
    iapply (Entails.of_eq (bigSep_sep' Finset.univ (fun c : Dev nD => bigSep Finset.univ fun k : Cell => (atPos ER (kcell (c, k)) 0 ∅ 0 : sProp 𝕄)) payToks).symm)
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## Credit -/

theorem bar_eq_iff {a b : Dev nD} : Iff (barCell a = barCell b) (a = b) :=
  ⟨fun h => congrArg (fun g : GSem nD τ sig => g.1.1) h, fun h => h ▸ rfl⟩
theorem r_eq_iff {a b : Dev nD} {i j : Fin 16} : Iff (rCell a i = rCell b j) (a = b ∧ i = j) :=
  ⟨fun h => by
    have h' : (a, (some (i, true) : Cell)) = (b, some (j, true)) := kcell_injective h
    simpa using h', fun h => by rw [h.1, h.2]⟩
theorem r_ne_bar {a b : Dev nD} {j : Fin 16} : rCell a j ≠ barCell b := fun h => by
  have h' : (a, (some (j, true) : Cell)) = (b, none) := kcell_injective h
  simp at h'

theorem Oto_bar (d c : Dev nD) (n : ℕ) : Oto d n (barCell c) () = 0 := by
  induction n with
  | zero => rfl
  | succ n ih => rw [Oto, Pi.add_apply, Finsupp.add_apply, ih, tallyAt_ne_cell (fun h => r_ne_bar h.symm), Finsupp.zero_apply, Nat.zero_add]
theorem Oto_r (d c : Dev nD) (j : Fin 16) (n : ℕ) (hn : n ≤ 16) :
    Oto d n (rCell c j) () = if 16 ≤ n + j.val ∧ d = frm (jb j) c then Nj j else 0 := by
  induction n with
  | zero => rw [if_neg fun h => by have := j.isLt; omega]; rfl
  | succ n ih =>
    rw [Oto, Pi.add_apply, Finsupp.add_apply, ih (by omega), tallyAt_apply]
    by_cases hj : n + j.val = 15
    · have hjj : (⟨15 - n, by omega⟩ : Fin 16) = j := Fin.ext (show 15 - n = j.val by omega)
      rw [hjj, if_neg (show ¬(16 ≤ n + j.val ∧ d = frm (jb j) c) from fun h => by omega), Nat.zero_add]
      refine if_congr ⟨fun h => ⟨by omega, ?_⟩, fun h => ⟨?_, rfl⟩⟩ rfl rfl
      · rw [(r_eq_iff.mp h.1).1, frm_tgt]
      · rw [h.2, tgt_frm]
    · rw [if_neg (show ¬(rCell c j = rCell (tgt (jb ⟨15 - n, by omega⟩) d) ⟨15 - n, by omega⟩ ∧ () = ()) from
        fun h => hj (by have := congrArg Fin.val (r_eq_iff.mp h.1).2; simp only at this; omega)), Nat.add_zero]
      exact if_congr (and_congr_left' ⟨fun h => by omega, fun h => by omega⟩) rfl rfl

theorem owed_bar (d c : Dev nD) : O₀ d (barCell c) () = (if d = prv c then 1 else 0) + (if d = nxt c then 1 else 0) := by
  unfold O₀ O₁
  rw [Pi.add_apply, Finsupp.add_apply, Pi.add_apply, Finsupp.add_apply, Oto_bar, tallyAt_apply, tallyAt_apply, Nat.zero_add]
  congr 1
  · by_cases h : d = prv c
    · rw [if_pos ⟨by rw [h, nxt_prv], rfl⟩, if_pos h]
    · rw [if_neg (fun h' => h (by rw [bar_eq_iff.mp h'.1, prv_nxt])), if_neg h]
  · by_cases h : d = nxt c
    · rw [if_pos ⟨by rw [h, prv_nxt], rfl⟩, if_pos h]
    · rw [if_neg (fun h' => h (by rw [bar_eq_iff.mp h'.1, nxt_prv])), if_neg h]
theorem owed_r (d c : Dev nD) (j : Fin 16) : O₀ d (rCell c j) () = if d = frm (jb j) c then Nj j else 0 := by
  unfold O₀ O₁
  rw [Pi.add_apply, Finsupp.add_apply, Pi.add_apply, Finsupp.add_apply, Oto_r d c j 16 (le_refl _), tallyAt_ne_cell r_ne_bar, tallyAt_ne_cell r_ne_bar,
    Finsupp.zero_apply, Nat.add_zero, Nat.add_zero]
  simp

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]
theorem launch_r (c : Dev nD) (j : Fin 16) :
    tallyOn (rCell c j) (launchCredit (Pipeline.owing O₀) 0 (rCell c j)) = (tallyAt (rCell c j) () (Nj j) : CellTallies nD τ sig Unit) := by
  unfold tallyAt; refine congrArg _ (Finsupp.ext fun u => ?_); cases u
  rw [Pipeline.launchCredit_owing, Finsupp.single_eq_same, Finset.sum_congr rfl fun d _ => owed_r d c j, Finset.sum_ite_eq' Finset.univ (frm (jb j) c) fun _ => Nj j,
    if_pos (Finset.mem_univ _)]

theorem rsem_injective : Function.Injective (fun j : Fin 16 => (SemLoc.dma (rsem j) : SemLoc sig)) := fun i j h => by
  have h' : rsem i = rsem j := by simpa using h
  rw [← jof_rsem i, h', jof_rsem]

theorem creds (c : Dev nD) :
    (Pipeline.launchCred O₀ c : sProp 𝕄) ⊢ iprop(cred (tallyAt (barCell c) () 2) ∗ bigSep Finset.univ fun j : Fin 16 => cred (tallyAt (rCell c j) () (Nj j))) := by
  unfold Pipeline.launchCred
  rw [bigSep_univ_at _ (SemLoc.reg barS), launch_bar]
  refine sep_mono_right ?_
  have hs : Finset.univ.map ⟨_, rsem_injective⟩ ⊆ Finset.univ.erase (SemLoc.reg barS : SemLoc sig) := by
    intro s hs
    obtain ⟨j, -, rfl⟩ := Finset.mem_map.mp hs
    exact Finset.mem_erase.mpr ⟨by simp, Finset.mem_univ _⟩
  refine (BI.bigSep_subset hs).trans ?_
  rw [bigSep_map]
  exact bigSep_mono fun j _ => Entails.of_eq (congrArg cred (launch_r c j))

/-! ## The theorem's side conditions -/

theorem share_eq (c : Dev nD) (w : Fin cfg0.W) : (dats m ρ 0 c).share w = fullShare := by unfold Dat.share; split <;> rfl

theorem gh_intro (c : Dev nD) :
    iprop((bigSep Finset.univ fun j : Fin 16 => iprop(atPos ER (sCell c j) 0 ∅ 0 ∗ atPos ER (rCell c j) 0 ∅ 0))
      ∗ (bigSep Finset.univ fun j : Fin 16 => iprop(dutyTok ER (sCell c j) 0 false ∗ dutyTok ER (rCell (tgt (jb j) c) j) 0 false))
      ∗ bigSep Finset.univ fun j : Fin 16 => cred (tallyAt (rCell c j) () (Nj j)))
      ⊢ bigSep Finset.univ (gh (F := F) c) := by
  unfold gh
  simp only [bigSep_sep']
  iintro ⟨⟨H1, H2⟩, ⟨H3, H4⟩, H5⟩
  isplitl [H3]; · iexact H3
  isplitl [H4]; · iexact H4
  isplitl [H1]; · iexact H1
  isplitl [H2] <;> iassumption

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  unfold G' linear payToks
  iintro ⟨-, #Hlev, Hcr, -, ⟨%K, #HR, Hat, HtT, HtF, Htj⟩⟩
  ihave Hc := (creds (F := F) c) $$ Hcr
  icases Hc with ⟨HcB, Hcj⟩
  ihave Hat := (Entails.of_eq (by_cell fun k : Cell => (atPos ER (kcell (c, k)) 0 ∅ 0 : sProp 𝕄))) $$ Hat
  icases Hat with ⟨HatB, Hatj⟩
  ihave Hgh := (gh_intro (F := F) c) $$ [Hatj Htj Hcj]
  · isplitl [Hatj]; · iexact Hatj
    isplitl [Htj] <;> iassumption
  imodintro
  unfold start records env
  icases HR with ⟨HR1, HR2⟩
  isplitl
  · iexists K
    isplitr
    · isplitr; · iexact HR1
      isplitr; · iexact HR2
      iexact Hlev
    isplitl [Hgh]; · iexact Hgh
    isplitl [HatB]; · iexact HatB
    isplitl [HcB]; · iexact HcB
    isplitl [HtT] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hf⟩, ⟨%g, Hg⟩⟩
  isplitl [Hs]; · iexact Hs
  isplitl [Hf]
  · iexists f; unfold pt; iexact Hf
  · iexists g; unfold pt; iexact Hg

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁
  iintro ⟨⟨%f, Hf⟩, ⟨%g, Hg⟩, HzB, Hz⟩
  isplitl [HzB]; · iexact HzB
  isplitl [Hz]; · iexact Hz
  unfold pt
  isplitl [Hf]
  · iexists f; iexact Hf
  · iexists g; iexact Hg

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, for any float values, the eight devices' kernels end: every array holds what was
    computed for it, and every semaphore is zero again. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The three argument arrays hold what they held, -/
theorem finalA_in (c : Dev nD) (w : Fin 4) (hw : w ≠ 3) : finalA m ρ c w = (s₀ m ρ).mem ((cfg0.win w).arr.view.loc (c : Thread nD τ)) :=
  (dats (F := F) m ρ 0 c).arrAt_in w (by revert w; decide) _

end Cert.KernelIdeal.TwoRings

end
-- ==== Proof.AsWritten.lean ====
/-
# The kernel as printed

The kernel with its constants named is the printed kernel once each name is read as the bit pattern it replaced. So the run
proved of the former, for any reading of the names, is a run of the latter.
-/
module

public import proofs.«01_k».proof.Proof.Run
public import proofs.«01_k».proof.Proof.Gen.Kernel
public import Idealize.ShloMosaic.PureOps.BitExact

@[expose] public section

noncomputable section

namespace Cert.Kernel.TwoRings

open Idealize.ShloMosaic Idealize.SL.Sem

/-- Each name read as its bit pattern. -/
@[instance_reducible] def asWritten : Named Bits where
  named _ _ {φ} bits := Scalar.ofBits φ bits

attribute [local instance] asWritten

/-- The two kernel bodies are one, -/
theorem defs₀_eq : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) => rfl
  | ⟨_ + 1, h⟩, _ => exact absurd h (Nat.not_lt.2 (Nat.le_add_left _ _))

/-- and so are the two body tables. -/
theorem defs_eq : Cert.Kernel.defs (F := Bits) = Cert.KernelIdeal.defs (F := Bits) :=
  congrArg (Pipeline.defs Cert.Kernel.pcfgs) defs₀_eq

/-- The printed kernel ends, its arguments as they were and its semaphores at zero. -/
theorem run (m : (ℓ : Loc Cert.Kernel.nD Cert.Kernel.τ Cert.Kernel.sig) → Buf (Elt Bits) ℓ) (g : Dev Cert.Kernel.nD → PrngReg) :
    θ_run (Cert.Kernel.defs (F := Bits)) (onTc (τ := Cert.Kernel.τ) (Cert.Kernel.main (F := Bits))) ⟨m, fun _ => 0, g⟩
      (fun r => Cert.KernelIdeal.TwoRings.QC m g r ∧ r.2.sem = fun _ => 0) := by
  rw [defs_eq]
  exact Cert.KernelIdeal.TwoRings.run_main m g

end Cert.Kernel.TwoRings

end
-- ==== Proof.Steps.lean ====
/-
# The kernel's accumulations, read at an index

Over the extended reals, what each step of the kernel adds to the sum of the exponentials and to the weighted sum of the
values, as sums over the rows of the block it reads.
-/
module

public import proofs.«01_k».proof.Proof.Body
public import Idealize.ShloMosaic.Lib.Pointwise

@[expose] public section

noncomputable section

namespace Cert.KernelIdeal.TwoRings

open Cert.KernelIdeal Cert.KernelIdeal.Gen
open Idealize.ShloMosaic Idealize.ShloMosaic.Pointwise

/-- A word's signed value, as an extended real. -/
def wv (b : BitVec 8) : EReal := ((b.toInt : ℝ) : EReal)

/-- The exponential of a query row's score against a key row. -/
def ex (q : S1024x128.Idx → EReal) (r : Fin 1024) (x : Fin 128 → BitVec 8) : EReal := Ideal.exp (∑ t : Fin 128, q (ix2 r t) * wv (x t))

/-- What a block of `R` key rows adds to the sum of the exponentials, -/
def ls {R : ℕ} (q : S1024x128.Idx → EReal) (r : Fin 1024) (x : (⟨4, ![1, 1, R, 128]⟩ : Shape).Idx → BitVec 8) : EReal :=
  ∑ j : Fin R, ex q r fun t => x (ix4 0 0 j t)

/-- and with its value rows to a column of the weighted sum. -/
def ws {R : ℕ} (q : S1024x128.Idx → EReal) (r : Fin 1024) (t : Fin 128) (x y : (⟨4, ![1, 1, R, 128]⟩ : Shape).Idx → BitVec 8) : EReal :=
  ∑ j : Fin R, ex q r (fun t => x (ix4 0 0 j t)) * wv (y (ix4 0 0 j t))

variable (q : FVec Ideal S1024x128 .bf16) (l : FVec Ideal S1024x1 .f32) (a : FVec Ideal S1024x128 .f32)
  (x y x' y' : Vec Ideal S1x1x1024x128 .i8) (h k h' k' : Vec Ideal S1x1x512x128 .i8) (r : Fin 1024) (t : Fin 128)

theorem pay14_apply : k0_pay14 q l (k0_pay12 x) (ix2 r 0) = l (ix2 r 0) + ls q r x := by
  pointwise [k0_pay14, k0_pay13, k0_pay12]; rfl

theorem pay15_apply : k0_pay15 q a (k0_pay12 x) y (ix2 r t) = a (ix2 r t) + ws q r t x y := by
  pointwise [k0_pay15, k0_pay13, k0_pay12]; rfl

theorem pay20_apply : k0_pay20 q l (k0_pay17 x) x' (ix2 r 0) = l (ix2 r 0) + ls q r x + ls q r x' := by
  pointwise [k0_pay20, k0_pay17, k0_pay18, k0_pay19]; rfl

theorem pay21_apply : k0_pay21 q a (k0_pay16 y) (k0_pay17 x) x' y' (ix2 r t) = a (ix2 r t) + ws q r t x y + ws q r t x' y' := by
  pointwise [k0_pay21, k0_pay16, k0_pay17, k0_pay18, k0_pay19]; rfl

theorem pay24_apply : k0_pay24 q l x x' (ix2 r 0) = l (ix2 r 0) + ls q r x + ls q r x' := by
  pointwise [k0_pay24, k0_pay22, k0_pay23]; rfl

theorem pay25_apply : k0_pay25 q a x y x' y' (ix2 r t) = a (ix2 r t) + ws q r t x y + ws q r t x' y' := by
  pointwise [k0_pay25, k0_pay22, k0_pay23]; rfl

theorem pay27_apply : k0_pay27 q l x (ix2 r 0) = l (ix2 r 0) + ls q r x := by
  pointwise [k0_pay27, k0_pay26]; rfl

theorem pay28_apply : k0_pay28 q a x y (ix2 r t) = a (ix2 r t) + ws q r t x y := by
  pointwise [k0_pay28, k0_pay26]; rfl

theorem pay30_apply : k0_pay30 q l x (ix2 r 0) = l (ix2 r 0) + ls q r x := by
  pointwise [k0_pay30, k0_pay29]; rfl

theorem pay31_apply : k0_pay31 q a x y (ix2 r t) = a (ix2 r t) + ws q r t x y := by
  pointwise [k0_pay31, k0_pay29]; rfl

theorem pay33_apply : k0_pay33 q a h k (ix2 r t) = a (ix2 r t) + ws q r t h k := by
  pointwise [k0_pay33, k0_pay32]; rfl

theorem pay35_apply : k0_pay35 q l h h' (ix2 r 0) = l (ix2 r 0) + ls q r h + ls q r h' := by
  pointwise [k0_pay35, k0_pay32, k0_pay34]; rfl

/-- The step of the wire format, as named. -/
theorem wire_val : (Named.named (F := Ideal) κ "wire" 0x3D112245#32 : Ideal .f32) = ((9 / 254 : ℝ) : EReal) := by
  exact IdealRules.named_const.ideal_named_scalar _ _ _ _ rfl

theorem pay1_apply : k0_pay1 a l (k0_pay36 q h) (k0_pay37 k) (ix2 r t)
    = (a (ix2 r t) + ws q r t h k) * Ideal.div ((9 / 254 : ℝ) : EReal) (l (ix2 r 0)) := by
  pointwise [k0_pay1, k0_pay36, k0_pay37, k0_pay34]
  rw [wire_val]; rfl

end Cert.KernelIdeal.TwoRings

end
-- ==== Proof.Totals.lean ====
/-
# What a device stores, as sums over the whole ring

Each device sees the block of every device exactly once: its own, three by each ring, and the opposite device's in two halves.
So its sums run over all the rows of all the devices.
-/
module

public import proofs.«01_k».proof.Proof.Steps

@[expose] public section

noncomputable section

namespace Cert.KernelIdeal.TwoRings

open Cert.KernelIdeal Cert.KernelIdeal.Gen
open Idealize.ShloMosaic Idealize.ShloMosaic.Pointwise

/-- The devices whose blocks a device reads, in the order in which it reads them. -/
def seen (c : Dev nD) : Fin 8 → Dev nD :=
  ![hop true 0 c, hop true 1 c, hop false 1 c, hop true 2 c, hop false 2 c, hop true 3 c, hop false 3 c, hop true 4 c]

/-- They are all the devices, each once. -/
theorem seen_bijective : ∀ c, Function.Bijective (seen c) := by decide

/-- The two rings meet at the opposite device. -/
theorem opposite : ∀ c, hop false 4 c = hop true 4 c := by decide

/-- A sum in the order of reading is the sum over the devices. -/
theorem sum_seen (g : Dev nD → EReal) (c : Dev nD) :
    g (hop true 0 c) + g (hop true 1 c) + g (hop false 1 c) + g (hop true 2 c) + g (hop false 2 c) + g (hop true 3 c) + g (hop false 3 c)
      + g (hop true 4 c) = ∑ d, g d := by
  rw [← Function.Bijective.sum_comp (seen_bijective c) g, Fin.sum_univ_eight]; rfl

/-- A sum over the rows of a block, from its two halves. -/
theorem sum_halves (f : Fin 1024 → EReal) :
    (∑ j : Fin 512, f ⟨0 + j.val, by have := j.isLt; omega⟩) + (∑ j : Fin 512, f ⟨512 + j.val, by have := j.isLt; omega⟩) = ∑ j, f j := by
  rw [show (∑ j : Fin 1024, f j) = ∑ j : Fin (512 + 512), f j from rfl, Fin.sum_univ_add]
  exact congrArg (· + _) (Finset.sum_congr rfl fun j _ => congrArg f (Fin.ext (Nat.zero_add _)))

variable (m : (ℓ : Loc nD τ sig) → Buf (Elt Ideal) ℓ) (ρ : Dev nD → PrngReg)

/-- The exponential of a query row's score against key row `j` of device `d`. -/
def EX (q : S1024x128.Idx → EReal) (r : Fin 1024) (d : Dev nD) (j : Fin 1024) : EReal := ex q r fun t => blkq m ρ 0 d (ix2 j t)

/-- A load of a half or of the whole of a buffer's slot, at an element. -/
theorem rd_apply (b : Bool) (c : Dev nD) (s k o R : ℕ) (hs : s < 5) (hk : k < 2) (ho : o + R ≤ 1024) (j : Fin R) (t : Fin 128) :
    rd s k o R (inb_reg hs hk ho) (Cc m ρ b c) (ix4 0 0 j t) = blkq m ρ k (hop b s c) (ix2 ⟨o + j.val, by have := j.isLt; omega⟩ t) := by
  show blkq m ρ (k + 1 * 0) (hop b (s + 1 * 0) c) (tl ((Rect.unit (s := S5x2x1024x128) ![s, k, o, 0] (![1, 1, R, 128] : Fin 4 → ℕ) (inb_reg hs hk ho)).emb (ix4 0 0 j t))) = _
  congr 1
  funext a
  match a with
  | ⟨0, _⟩ => exact Fin.ext (by show o + 1 * j.val = o + j.val; omega)
  | ⟨1, _⟩ => exact Fin.ext (by show 0 + 1 * t.val = t.val; omega)

/-- What a load's key rows add to the sum of the exponentials, -/
theorem ls_rd (q : S1024x128.Idx → EReal) (r : Fin 1024) (b : Bool) (c : Dev nD) (s o R : ℕ) (hs : s < 5) (hk : 0 < 2) (ho : o + R ≤ 1024) :
    ls q r (rd s 0 o R (inb_reg hs hk ho) (Cc m ρ b c)) = ∑ j : Fin R, EX m ρ q r (hop b s c) ⟨o + j.val, by have := j.isLt; omega⟩ := by
  unfold ls
  exact Finset.sum_congr rfl fun j _ => congrArg (ex q r) (funext fun t => rd_apply m ρ b c s 0 o R hs hk ho j t)

/-- and with its value rows to a column of the weighted sum. -/
theorem ws_rd (q : S1024x128.Idx → EReal) (r : Fin 1024) (t : Fin 128) (b : Bool) (c : Dev nD) (s o R : ℕ) (hs : s < 5) (hk : 0 < 2) (hv : 1 < 2)
    (ho : o + R ≤ 1024) :
    ws q r t (rd s 0 o R (inb_reg hs hk ho) (Cc m ρ b c)) (rd s 1 o R (inb_reg hs hv ho) (Cc m ρ b c))
      = ∑ j : Fin R, EX m ρ q r (hop b s c) ⟨o + j.val, by have := j.isLt; omega⟩
          * wv (blkq m ρ 1 (hop b s c) (ix2 ⟨o + j.val, by have := j.isLt; omega⟩ t)) := by
  unfold ws
  exact Finset.sum_congr rfl fun j _ => congrArg₂ (· * ·) (congrArg (ex q r) (funext fun t => rd_apply m ρ b c s 0 o R hs hk ho j t))
    (congrArg wv (rd_apply m ρ b c s 1 o R hs hv ho j t))

/-- Device `d`'s share of the sum of the exponentials, -/
def SL (q : S1024x128.Idx → EReal) (r : Fin 1024) (d : Dev nD) : EReal := ∑ j, EX m ρ q r d j

/-- and of the weighted sum. -/
def SW (q : S1024x128.Idx → EReal) (r : Fin 1024) (t : Fin 128) (d : Dev nD) : EReal := ∑ j, EX m ρ q r d j * wv (blkq m ρ 1 d (ix2 j t))

/-- A whole slot holds a device's whole share, -/
theorem ls_whole (q : S1024x128.Idx → EReal) (r : Fin 1024) (b : Bool) (c : Dev nD) (s : ℕ) (hs : s < 5) (hk : 0 < 2) :
    ls q r (ldW m ρ b s 0 hs hk c) = SL m ρ q r (hop b s c) :=
  (ls_rd m ρ q r b c s 0 1024 hs hk (le_refl _)).trans (Finset.sum_congr rfl fun j _ => congrArg (EX m ρ q r _) (Fin.ext (Nat.zero_add _)))

theorem ws_whole (q : S1024x128.Idx → EReal) (r : Fin 1024) (t : Fin 128) (b : Bool) (c : Dev nD) (s : ℕ) (hs : s < 5) (hk : 0 < 2) (hv : 1 < 2) :
    ws q r t (ldW m ρ b s 0 hs hk c) (ldW m ρ b s 1 hs hv c) = SW m ρ q r t (hop b s c) :=
  (ws_rd m ρ q r t b c s 0 1024 hs hk hv (le_refl _)).trans (Finset.sum_congr rfl fun j _ =>
    congrArg (fun i => EX m ρ q r (hop b s c) i * wv (blkq m ρ 1 (hop b s c) (ix2 i t))) (Fin.ext (Nat.zero_add _)))

/-- and the two halves of the last slots the opposite device's. -/
theorem ls_halves (q : S1024x128.Idx → EReal) (r : Fin 1024) (c : Dev nD) (hs : 4 < 5) (hk : 0 < 2) (h₁ : 0 + 512 ≤ 1024) (h₂ : 512 + 512 ≤ 1024) :
    ls q r (ldH m ρ true 4 0 0 hs hk h₁ c) + ls q r (ldH m ρ false 4 0 512 hs hk h₂ c) = SL m ρ q r (hop true 4 c) := by
  refine (congrArg₂ (· + ·) (ls_rd m ρ q r true c 4 0 512 hs hk h₁) (ls_rd m ρ q r false c 4 512 512 hs hk h₂)).trans ?_
  rw [opposite]
  exact sum_halves fun j => EX m ρ q r (hop true 4 c) j

theorem ws_halves (q : S1024x128.Idx → EReal) (r : Fin 1024) (t : Fin 128) (c : Dev nD) (hs : 4 < 5) (hk : 0 < 2) (hv : 1 < 2) (h₁ : 0 + 512 ≤ 1024)
    (h₂ : 512 + 512 ≤ 1024) :
    ws q r t (ldH m ρ true 4 0 0 hs hk h₁ c) (ldH m ρ true 4 1 0 hs hv h₁ c)
      + ws q r t (ldH m ρ false 4 0 512 hs hk h₂ c) (ldH m ρ false 4 1 512 hs hv h₂ c) = SW m ρ q r t (hop true 4 c) := by
  refine (congrArg₂ (· + ·) (ws_rd m ρ q r t true c 4 0 512 hs hk hv h₁) (ws_rd m ρ q r t false c 4 512 512 hs hk hv h₂)).trans ?_
  rw [opposite]
  exact sum_halves fun j => EX m ρ q r (hop true 4 c) j * wv (blkq m ρ 1 (hop true 4 c) (ix2 j t))

/-- The sum of the exponentials of a query row's scores against every row of every device. -/
theorem l4_apply (c : Dev nD) (r : Fin 1024) : l4 m ρ c (ix2 r 0) = ∑ d, SL m ρ (qs m ρ c) r d := by
  unfold l4
  rw [pay35_apply, add_assoc, ls_halves]
  unfold l3
  rw [pay30_apply, pay27_apply]
  unfold l2
  rw [pay24_apply]
  unfold l1
  rw [pay20_apply]
  unfold l0
  rw [pay14_apply]
  simp only [ls_whole]
  rw [← sum_seen _ c]
  have z : (k0_pay10 : FVec Ideal S1024x1 .f32) (ix2 r 0) = 0 := by pointwise [k0_pay10]
  rw [z, zero_add]

/-- The sum of every device's value rows, weighted by those exponentials. -/
theorem acc_apply (c : Dev nD) (r : Fin 1024) (t : Fin 128) :
    a4 m ρ c (ix2 r t) + ws (qs m ρ c) r t (ldH m ρ false 4 0 512 (by decide) (by decide) (by decide) c) (ldH m ρ false 4 1 512 (by decide) (by decide) (by decide) c)
      = ∑ d, SW m ρ (qs m ρ c) r t d := by
  unfold a4
  rw [pay33_apply, add_assoc, ws_halves]
  unfold a3
  rw [pay31_apply, pay28_apply]
  unfold a2
  rw [pay25_apply]
  unfold a1
  rw [pay21_apply]
  unfold a0
  rw [pay15_apply]
  simp only [ws_whole]
  rw [← sum_seen _ c]
  have z : (k0_pay11 : FVec Ideal S1024x128 .f32) (ix2 r t) = 0 := by pointwise [k0_pay11]
  rw [z, zero_add]

/-- What device `c` stores. -/
theorem outAt_apply (c : Dev nD) (r : Fin 1024) (t : Fin 128) :
    outAt m ρ c (ix2 r t) = (∑ d, SW m ρ (qs m ρ c) r t d) * Ideal.div ((9 / 254 : ℝ) : EReal) (∑ d, SL m ρ (qs m ρ c) r d) := by
  unfold outAt
  exact (pay1_apply _ _ _ _ _ r t).trans (by rw [acc_apply, l4_apply])

end Cert.KernelIdeal.TwoRings

end
-- ==== Proof.Quantiser.lean ====
/-
# The quantiser

Both programs round a number of steps half to even and clip it to 127 steps either way. Over the extended reals the result is an
integer between −127 and 127 whatever the input, an infinite one included, and an 8-bit word holds it exactly.
-/
module

public import proofs.«01_k».proof.Proof.Totals

@[expose] public section

noncomputable section

namespace Cert.KernelIdeal.TwoRings

open Cert.KernelIdeal Cert.KernelIdeal.Gen
open Idealize.ShloMosaic Idealize.ShloMosaic.Pointwise

/-- A number of steps, rounded and clipped. -/
def wq : EReal → ℤ
  | ⊥ => -127
  | ⊤ => 127
  | (x : ℝ) => min 127 (max (-127) (Ideal.roundHalfEven x))

theorem wq_le (x : EReal) : wq x ≤ 127 := by
  induction x with
  | bot => show (-127 : ℤ) ≤ 127; decide
  | top => exact le_refl (127 : ℤ)
  | coe x => exact min_le_left _ _

theorem le_wq (x : EReal) : -127 ≤ wq x := by
  induction x with
  | bot => exact le_refl (-127 : ℤ)
  | top => show (-127 : ℤ) ≤ 127; decide
  | coe x => exact le_min (by decide) (le_max_left _ _)

/-- Rounding and clipping gives that integer. -/
theorem clip_eq (x : EReal) :
    min ((127 : ℝ) : EReal) (max ((-127 : ℝ) : EReal) (Ideal.liftRound Ideal.roundHalfEven x)) = ((wq x : ℝ) : EReal) := by
  induction x with
  | bot =>
    rw [Ideal.liftRound_bot, max_eq_left bot_le, min_eq_right (EReal.coe_le_coe_iff.mpr (by norm_num))]
    show _ = (((-127 : ℤ) : ℝ) : EReal)
    norm_num
  | top =>
    rw [Ideal.liftRound_top, max_eq_right le_top, min_eq_left le_top]
    show _ = (((127 : ℤ) : ℝ) : EReal)
    norm_num
  | coe x =>
    rw [Ideal.liftRound_coe, ← EReal.coe_strictMono.monotone.map_max, ← EReal.coe_strictMono.monotone.map_min]
    show _ = (((min 127 (max (-127) (Ideal.roundHalfEven x)) : ℤ) : ℝ) : EReal)
    push_cast
    rfl

/-- An 8-bit word holds it exactly. -/
theorem word_eq (x : EReal) : (Ideal.fptosi 8 ((wq x : ℝ) : EReal)).toInt = wq x := by
  have h₁ := wq_le x
  have h₂ := le_wq x
  unfold Ideal.fptosi
  rw [Ideal.toIntClamped_coe, Int.floor_intCast, Int.ceil_intCast, ite_self, BitVec.toInt_ofInt]
  have e : max (-((2 ^ (8 - 1) : ℕ) : ℤ)) (min (((2 ^ (8 - 1) : ℕ) : ℤ) - 1) (wq x)) = wq x := by norm_num; omega
  rw [e]
  exact Int.bmod_eq_of_le (by norm_num; omega) (by norm_num; omega)

theorem c127 : Ideal.ofBits .f32 0x42FE0000#32 = ((127 : ℝ) : EReal) := by
  simp [Ideal.ofBits, Ideal.ieee, -EReal.coe_mul]; norm_num

theorem cn127 : Ideal.ofBits .f32 0xC2FE0000#32 = ((-127 : ℝ) : EReal) := by
  simp [Ideal.ofBits, Ideal.ieee, -EReal.coe_mul, -EReal.coe_neg]; norm_num

/-- The number of steps in a unit, as named, -/
theorem inv_wire_val : (Named.named (F := Ideal) κ "inv_wire" 0x41E2#16 : Ideal .bf16) = ((254 / 9 : ℝ) : EReal) :=
  IdealRules.named_const.ideal_named_scalar _ _ _ _ rfl

/-- and the step over the root of the width. -/
theorem qs_val : (Named.named (F := Ideal) κ "qs" 0x3B4D#16 : Ideal .bf16) = (((Real.sqrt 128)⁻¹ * (9 / 254) : ℝ) : EReal) :=
  IdealRules.named_const.ideal_named_scalar _ _ _ _ rfl

/-- The word of a key, -/
theorem key_word (x : Vec Ideal S1024x128 .bf16) (j : Fin 1024) (t : Fin 128) :
    wv (k0_pay3 (k0_pay2 x) (ix2 j t)) = ((wq (x (ix2 j t) * ((254 / 9 : ℝ) : EReal)) : ℝ) : EReal) := by
  have e : k0_pay3 (k0_pay2 x) (ix2 j t) = Ideal.fptosi 8 (min (Ideal.ofBits .f32 0x42FE0000#32) (max (Ideal.ofBits .f32 0xC2FE0000#32)
      (Ideal.liftRound Ideal.roundHalfEven (x (ix2 j t) * Named.named (F := Ideal) (φ := .bf16) κ "inv_wire" 0x41E2#16)))) := by
    pointwise [k0_pay3, k0_pay2]; rfl
  rw [e, inv_wire_val, c127, cn127, clip_eq]
  unfold wv; rw [word_eq]

/-- and of a value. -/
theorem value_word (x : Vec Ideal S1024x128 .bf16) (j : Fin 1024) (t : Fin 128) :
    wv (k0_pay4 x (ix2 j t)) = ((wq (x (ix2 j t) * ((254 / 9 : ℝ) : EReal)) : ℝ) : EReal) := by
  have e : k0_pay4 x (ix2 j t) = Ideal.fptosi 8 (min (Ideal.ofBits .f32 0x42FE0000#32) (max (Ideal.ofBits .f32 0xC2FE0000#32)
      (Ideal.liftRound Ideal.roundHalfEven (x (ix2 j t) * Named.named (F := Ideal) (φ := .bf16) κ "inv_wire" 0x41E2#16)))) := by
    pointwise [k0_pay4]; rfl
  rw [e, inv_wire_val, c127, cn127, clip_eq]
  unfold wv; rw [word_eq]

/-- A query, scaled. -/
theorem query_apply (x : Vec Ideal S1024x128 .bf16) (r : Fin 1024) (t : Fin 128) :
    k0_pay9 x (ix2 r t) = x (ix2 r t) * (((Real.sqrt 128)⁻¹ * (9 / 254) : ℝ) : EReal) := by
  pointwise [k0_pay9]
  rw [qs_val]

end Cert.KernelIdeal.TwoRings

end
-- ==== Proof.Reference.lean ====
/-
# The reference, read at an index

Over the extended reals the reference's result is softmax attention over the quantised keys and values: at an element, the sum over
all the rows of the softmax's weight times the quantised value.
-/
module

public import proofs.«01_k».proof.Proof.Quantiser
public import proofs.«01_k».proof.Proof.Gen.ReferenceIdeal.Run

@[expose] public section

noncomputable section

namespace Cert.ReferenceIdeal.Attention

open Cert.ReferenceIdeal Cert.ReferenceIdeal.Gen Cert.ReferenceIdeal.Value
open Cert.KernelIdeal.TwoRings (wq clip_eq c127 cn127)
open Idealize.ShloMosaic Idealize.ShloMosaic.TcCoe Idealize.ShloMosaic.Pointwise

/-- The step of the quantiser, as the reference computes it. -/
def stepR : EReal := Ideal.div (Ideal.ofBits .f32 0x40900000#32) (Ideal.ofBits .f32 0x42FE0000#32)

/-- A quantised element, -/
def wireR (x : EReal) : EReal :=
  min (Ideal.ofBits .f32 0x42FE0000#32) (max (Ideal.ofBits .f32 0xC2FE0000#32) (Ideal.liftRound Ideal.roundHalfEven (Ideal.div x stepR))) * stepR

/-- a score, -/
def scoreR (q k : S8192x128.Idx → EReal) (i j : Fin 8192) : EReal :=
  Ideal.div (∑ t : Fin 128, q (ix2 i t) * wireR (k (ix2 j t))) (Ideal.sqrt (Ideal.ofBits .f32 0x43000000#32))

/-- the greatest score of a row, -/
def topR (q k : S8192x128.Idx → EReal) (i : Fin 8192) : EReal :=
  Finset.univ.fold max (Ideal.ofBits .f32 0xFF800000#32) fun j => scoreR q k i j

/-- and the result. -/
def resR (q k v : S8192x128.Idx → EReal) (i : Fin 8192) (t : Fin 128) : EReal :=
  ∑ j : Fin 8192, Ideal.div (Ideal.exp (scoreR q k i j - topR q k i)) (∑ l : Fin 8192, Ideal.exp (scoreR q k i l - topR q k i)) * wireR (v (ix2 j t))

/-- What the reference's run leaves, at an element. -/
theorem result_apply (m : (ℓ : Loc nD τ sig) → Buf (Elt Ideal) ℓ) (c : Dev nD) (i : Fin 8192) (t : Fin 128) :
    (show S8192x128.Idx → EReal from res_main_v35 m c) (ix2 i t)
      = resR (m ((c : Thread nD τ).loc main_arg0)) (m ((c : Thread nD τ).loc main_arg1)) (m ((c : Thread nD τ).loc main_arg2)) i t := by
  pointwise [res_main_v35]
  rfl

/-- The step is 9/254. -/
theorem stepR_eq : stepR = ((9 / 254 : ℝ) : EReal) := by
  have h : Ideal.ofBits .f32 0x40900000#32 = ((9 / 2 : ℝ) : EReal) := by
    simp [Ideal.ofBits, Ideal.ieee, -EReal.coe_mul]; norm_num
  unfold stepR
  rw [h, c127, Ideal.div, if_neg (by simp), ← EReal.coe_inv, ← EReal.coe_mul]
  norm_num

/-- A quantised element is a whole number of steps. -/
theorem wireR_eq (x : EReal) : wireR x = (((wq (x * ((254 / 9 : ℝ) : EReal)) : ℝ) * (9 / 254) : ℝ) : EReal) := by
  have d : Ideal.div x ((9 / 254 : ℝ) : EReal) = x * ((254 / 9 : ℝ) : EReal) := by
    rw [Ideal.div, if_neg (by norm_num), ← EReal.coe_inv]; norm_num
  unfold wireR
  rw [stepR_eq, d, c127, cn127, clip_eq, EReal.coe_mul]

/-- The width's root. -/
theorem root_eq : Ideal.sqrt (Ideal.ofBits .f32 0x43000000#32) = ((Real.sqrt 128 : ℝ) : EReal) := by
  have h : Ideal.ofBits .f32 0x43000000#32 = ((128 : ℝ) : EReal) := by
    simp [Ideal.ofBits, Ideal.ieee, -EReal.coe_mul]; norm_num
  rw [h]
  show (if (128 : ℝ) < 0 then (⊥ : EReal) else ((Real.sqrt 128 : ℝ) : EReal)) = _
  rw [if_neg (by norm_num)]

end Cert.ReferenceIdeal.Attention

end
-- ==== Proof.Final.lean ====
/-
# The arrays before and after

Each window is its whole array: what a body is given is the device's argument array, and what it stores is the result array after
the run.
-/
module

public import proofs.«01_k».proof.Proof.Run
public import Idealize.ShloMosaic.Lib.Pipeline.Value

@[expose] public section

noncomputable section

namespace Cert.KernelIdeal.TwoRings

open Cert.KernelIdeal Cert.KernelIdeal.Gen
open Idealize.ShloMosaic Idealize.ShloMosaic.TcCoe

variable {F : FTy → Type} [FloatOps F] [Named F]
variable (m : (ℓ : Loc nD τ sig) → Buf (Elt F) ℓ) (ρ : Dev nD → PrngReg)

/-- A window's one block is its whole array, element for element. -/
theorem emb0 (y : S1024x128.Idx) : (win0_0.blk (0 : Fin 1)).view.emb y = y := by
  funext a
  match a with
  | ⟨0, _⟩ => exact Fin.ext (by show 0 * 1024 + 1 * (y 0).val = (y 0).val; omega)
  | ⟨1, _⟩ => exact Fin.ext (by show 0 * 128 + 1 * (y 1).val = (y 1).val; omega)

theorem emb3 (y : S1024x128.Idx) : (win0_3.blk (0 : Fin 1)).view.emb y = y := emb0 y

theorem qst_eq (c : Dev nD) : qst m ρ c = m ((c : Thread nD τ).loc main_arg0) := funext fun y => congrArg (m ((c : Thread nD τ).loc main_arg0)) (emb0 y)
theorem kst_eq (c : Dev nD) : kst m ρ c = m ((c : Thread nD τ).loc main_arg1) := funext fun y => congrArg (m ((c : Thread nD τ).loc main_arg1)) (emb0 y)
theorem vst_eq (c : Dev nD) : vst m ρ c = m ((c : Thread nD τ).loc main_arg2) := funext fun y => congrArg (m ((c : Thread nD τ).loc main_arg2)) (emb0 y)

/-- The result array ends holding what the device stored. -/
theorem finalA_out (c : Dev nD) : finalA m ρ c (3 : Fin 4) = outAt m ρ c :=
  (dats m ρ 0 c).arrAt_eq_of_cover (3 : Fin 4) (outAt m ρ c)
    (fun t _ => by
      rw [fin_N0 t]
      exact funext fun y => congrArg (outAt m ρ c) (emb3 y).symm)
    (fun i => ⟨(0 : Fin 1), flush0_3 _, by
      have h := (win0_3.blk (0 : Fin 1)).view.emb_mem_set i
      rw [emb3] at h
      exact h⟩)

end Cert.KernelIdeal.TwoRings

end
-- ==== Proof.Agree.lean ====
/-
# The kernel's result is the reference's

With finite queries every score is a real number, so both results are quotients of real sums: the kernel divides once at the end, the
reference divides every weight and subtracts a row's greatest score first, and the two quotients are equal.
-/
module

public import proofs.«01_k».proof.Proof.Reference
public import proofs.«01_k».proof.Proof.Final

@[expose] public section

noncomputable section

namespace Cert.Attention

open Cert.KernelIdeal.TwoRings Cert.ReferenceIdeal.Attention
open Idealize.ShloMosaic Idealize.ShloMosaic.TcCoe Idealize.ShloMosaic.Pointwise
open Cert.ReferenceIdeal (S8192x128)
open Cert.KernelIdeal (S1024x128)

/-- A sum of reals is the same sum of extended reals. -/
theorem coe_sum {ι : Type} [Fintype ι] (f : ι → ℝ) : ((∑ i, f i : ℝ) : EReal) = ∑ i, (f i : EReal) :=
  map_sum (AddMonoidHom.mk ⟨fun x : ℝ => (x : EReal), EReal.coe_zero⟩ EReal.coe_add) f Finset.univ

/-- Division by a real other than zero. -/
theorem div_coe (x y : ℝ) (h : y ≠ 0) : Ideal.div (x : EReal) (y : EReal) = ((x / y : ℝ) : EReal) := by
  rw [Ideal.div, if_neg (by exact_mod_cast h), ← EReal.coe_inv, ← EReal.coe_mul, div_eq_mul_inv]

/-- A softmax's weighted sum is the sum weighted by the exponentials, divided once; the subtracted number and a common factor of the
    values come out. -/
theorem softmax_eq {ι : Type} [Fintype ι] [Nonempty ι] (s v : ι → ℝ) (M w : ℝ) :
    (∑ j, Real.exp (s j - M) / (∑ l, Real.exp (s l - M)) * (v j * w)) = (∑ j, Real.exp (s j) * v j) * (w / ∑ l, Real.exp (s l)) := by
  have hE : ∀ j, Real.exp (s j - M) = Real.exp (s j) * Real.exp (-M) := fun j => by rw [sub_eq_add_neg, Real.exp_add]
  simp only [hE, ← Finset.sum_mul]
  have hM := Real.exp_ne_zero (-M)
  simp only [mul_div_mul_right _ _ hM]
  generalize (∑ l, Real.exp (s l)) = S
  rw [Finset.sum_mul]
  refine Finset.sum_congr rfl fun j _ => ?_
  ring

section Whole

variable (q k v : S8192x128.Idx → EReal) (Q : S8192x128.Idx → ℝ)

/-- The number of steps of a quantised element. -/
def steps (x : S8192x128.Idx → EReal) (j : Fin 8192) (t : Fin 128) : ℝ := (wq (x (ix2 j t) * ((254 / 9 : ℝ) : EReal)) : ℝ)

/-- A score, as a real number. -/
def score (i j : Fin 8192) : ℝ := ∑ t : Fin 128, Q (ix2 i t) * ((Real.sqrt 128)⁻¹ * (9 / 254)) * steps k j t

/-- What both programs compute. -/
def result (i : Fin 8192) (t : Fin 128) : ℝ :=
  (∑ j, Real.exp (score k Q i j) * steps v j t) * ((9 / 254) / ∑ j, Real.exp (score k Q i j))

variable (hq : ∀ i, q i = (Q i : EReal))
include hq

theorem scoreR_eq (i j : Fin 8192) : scoreR q k i j = ((score k Q i j : ℝ) : EReal) := by
  unfold scoreR score
  simp only [hq, wireR_eq, ← EReal.coe_mul, ← coe_sum]
  rw [root_eq, div_coe _ _ (by positivity), Finset.sum_div]
  congr 1
  refine Finset.sum_congr rfl fun t _ => ?_
  unfold steps
  rw [div_eq_mul_inv]
  ring

/-- The greatest score of a row is a real number. -/
theorem topR_eq (i : Fin 8192) : ∃ M : ℝ, topR q k i = (M : EReal) := by
  have hb : Ideal.ofBits .f32 0xFF800000#32 = ⊥ := by simp [Ideal.ofBits, Ideal.ieee]
  have h₁ : topR q k i < ⊤ := by
    unfold topR
    rw [Finset.fold_max_lt, hb]
    exact ⟨bot_lt_top, fun j _ => by rw [scoreR_eq q k Q hq]; exact EReal.coe_lt_top _⟩
  have h₂ : ⊥ < topR q k i := by
    unfold topR
    rw [Finset.lt_fold_max]
    exact Or.inr ⟨0, Finset.mem_univ _, by rw [scoreR_eq q k Q hq]; exact EReal.bot_lt_coe _⟩
  exact ⟨(topR q k i).toReal, (EReal.coe_toReal h₁.ne h₂.ne').symm⟩

/-- The reference's result. -/
theorem resR_eq (i : Fin 8192) (t : Fin 128) : resR q k v i t = ((result k v Q i t : ℝ) : EReal) := by
  obtain ⟨M, hM⟩ := topR_eq q k Q hq i
  have he : ∀ j, Ideal.exp (scoreR q k i j - topR q k i) = ((Real.exp (score k Q i j - M) : ℝ) : EReal) := fun j => by
    rw [hM, scoreR_eq q k Q hq, ← EReal.coe_sub]; rfl
  have hp : (∑ l, Real.exp (score k Q i l - M)) ≠ 0 := (Finset.sum_pos (fun j _ => Real.exp_pos _) Finset.univ_nonempty).ne'
  unfold resR result
  simp only [he, wireR_eq, ← coe_sum]
  simp only [div_coe _ _ hp, ← EReal.coe_mul, ← coe_sum]
  exact congrArg _ (softmax_eq (fun j => score k Q i j) (fun j => steps v j t) M (9 / 254))

end Whole

/-- Row `j` of device `d`'s block, in the whole array. -/
def row (d : Fin 8) (j : Fin 1024) : Fin 8192 := ⟨d.val * 1024 + j.val, by have := d.isLt; have := j.isLt; omega⟩

/-- A sum over the devices' rows is the sum over the whole array's. -/
theorem sum_rows (f : Fin 8192 → EReal) : (∑ d : Fin 8, ∑ j : Fin 1024, f (row d j)) = ∑ i, f i := by
  rw [← Fintype.sum_prod_type' (fun d j => f (row d j))]
  exact Fintype.sum_equiv (finProdFinEquiv : Fin 8 × Fin 1024 ≃ Fin (8 * 1024)) _ f fun p =>
    congrArg f (Fin.ext (by show p.1.val * 1024 + p.2.val = p.2.val + 1024 * p.1.val; omega))

/-- A device's block, at an element. -/
theorem block_row (d : Fin 8) (x : S8192x128.Idx → EReal) (j : Fin 1024) (t : Fin 128) :
    (Layout.block ⟨2, ![1024, 128]⟩ ⟨2, ![8192, 128]⟩ 0 8 d x) (ix2 j t) = x (ix2 (row d j) t) := by
  rw [Layout.block_apply]
  refine congrArg x (funext fun a => Fin.ext ?_)
  match a with
  | ⟨0, _⟩ => rfl
  | ⟨1, _⟩ => rfl

section Kernel

open Cert.KernelIdeal Cert.KernelIdeal.Gen

variable (m : (ℓ : Loc nD τ sig) → Buf (Elt Ideal) ℓ) (ρ : Dev nD → PrngReg) (q k v : S8192x128.Idx → EReal) (Q : S8192x128.Idx → ℝ)
  (hq : ∀ i, q i = (Q i : EReal))
  (h₀ : ∀ c : Dev nD, m ((c : Thread nD τ).loc main_arg0) = Layout.block ⟨2, ![1024, 128]⟩ ⟨2, ![8192, 128]⟩ 0 8 c q)
  (h₁ : ∀ c : Dev nD, m ((c : Thread nD τ).loc main_arg1) = Layout.block ⟨2, ![1024, 128]⟩ ⟨2, ![8192, 128]⟩ 0 8 c k)
  (h₂ : ∀ c : Dev nD, m ((c : Thread nD τ).loc main_arg2) = Layout.block ⟨2, ![1024, 128]⟩ ⟨2, ![8192, 128]⟩ 0 8 c v)

include h₁ in
theorem key_steps (d : Dev nD) (j : Fin 1024) (t : Fin 128) : wv (blkq m ρ 0 d (ix2 j t)) = ((steps k (row d j) t : ℝ) : EReal) := by
  show wv (k0_pay3 (k0_pay2 (kst m ρ d)) (ix2 j t)) = _
  rw [key_word, kst_eq, h₁, block_row]
  rfl

include h₂ in
theorem value_steps (d : Dev nD) (j : Fin 1024) (t : Fin 128) : wv (blkq m ρ 1 d (ix2 j t)) = ((steps v (row d j) t : ℝ) : EReal) := by
  show wv (k0_pay4 (vst m ρ d) (ix2 j t)) = _
  rw [value_word, vst_eq, h₂, block_row]
  rfl

include hq h₀ h₁ in
theorem EX_eq (c : Dev nD) (r : Fin 1024) (d : Dev nD) (j : Fin 1024) :
    EX m ρ (qs m ρ c) r d j = ((Real.exp (score k Q (row c r) (row d j)) : ℝ) : EReal) := by
  have e : ∀ t : Fin 128, qs m ρ c (ix2 r t) * wv (blkq m ρ 0 d (ix2 j t))
      = ((Q (ix2 (row c r) t) * ((Real.sqrt 128)⁻¹ * (9 / 254)) * steps k (row d j) t : ℝ) : EReal) := fun t => by
    unfold qs
    rw [query_apply, qst_eq, h₀, block_row, hq, key_steps m ρ k h₁, ← EReal.coe_mul, ← EReal.coe_mul]
  unfold EX ex
  simp only [e, ← coe_sum]
  rfl

include hq h₀ h₁ h₂ in
/-- What a device stores is its block of that result. -/
theorem outAt_eq (c : Dev nD) (r : Fin 1024) (t : Fin 128) : outAt m ρ c (ix2 r t) = ((result k v Q (row c r) t : ℝ) : EReal) := by
  have hl : (∑ d : Fin 8, SL m ρ (qs m ρ c) r d) = ((∑ j, Real.exp (score k Q (row c r) j) : ℝ) : EReal) := by
    unfold SL
    simp only [EX_eq m ρ q k Q hq h₀ h₁]
    rw [sum_rows fun j => ((Real.exp (score k Q (row c r) j) : ℝ) : EReal), ← coe_sum]
  have hw : (∑ d : Fin 8, SW m ρ (qs m ρ c) r t d) = ((∑ j, Real.exp (score k Q (row c r) j) * steps v j t : ℝ) : EReal) := by
    unfold SW
    simp only [EX_eq m ρ q k Q hq h₀ h₁, value_steps m ρ v h₂, ← EReal.coe_mul]
    rw [sum_rows fun j => ((Real.exp (score k Q (row c r) j) * steps v j t : ℝ) : EReal), ← coe_sum]
  have hp : (∑ j, Real.exp (score k Q (row c r) j)) ≠ 0 := (Finset.sum_pos (fun j _ => Real.exp_pos _) Finset.univ_nonempty).ne'
  refine (outAt_apply m ρ c r t).trans ?_
  refine (congrArg₂ (fun a l => a * Ideal.div ((9 / 254 : ℝ) : EReal) l) hw hl).trans ?_
  show _ * Ideal.div _ _ = _
  rw [div_coe _ _ hp, ← EReal.coe_mul]
  rfl

end Kernel

end Cert.Attention

end
-- ==== Proof.lean ====
module

public import proofs.«01_k».proof.Defs
public import proofs.«01_k».proof.Proof.Run
public import proofs.«01_k».proof.Proof.AsWritten
public import proofs.«01_k».proof.Proof.Agree
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Lib.Quiescent
public import Idealize.ShloMosaic.Adequacy
public import Idealize.ShloMosaic.Init

@[expose] public section

noncomputable section

namespace Cert.Proof

open Idealize.ShloMosaic Idealize.ShloMosaic.Pointwise Idealize.SL.Sem

attribute [local instance] Cert.Kernel.TwoRings.asWritten in
/-- The printed kernel ends, leaving its arguments and its semaphores as they were. -/
theorem frame_p : quiescent_Kernel := fun m g _ =>
  (θ_run Cert.Kernel.defs _ _).mono (fun r h => ⟨fun c => ⟨(h.1 c (0 : Fin 4)).trans (Cert.KernelIdeal.TwoRings.finalA_in (F := Bits) m g c 0 (by decide)),
    (h.1 c (1 : Fin 4)).trans (Cert.KernelIdeal.TwoRings.finalA_in (F := Bits) m g c 1 (by decide)),
    (h.1 c (2 : Fin 4)).trans (Cert.KernelIdeal.TwoRings.finalA_in (F := Bits) m g c 2 (by decide))⟩, h.2⟩) (Cert.Kernel.TwoRings.run m g)

/-- So does the kernel with its constants named, -/
theorem frame_pi : quiescent_KernelIdeal := fun m g _ =>
  (θ_run Cert.KernelIdeal.defs _ _).mono (fun r h => ⟨fun c => ⟨(h.1 c (0 : Fin 4)).trans (Cert.KernelIdeal.TwoRings.finalA_in m g c 0 (by decide)),
    (h.1 c (1 : Fin 4)).trans (Cert.KernelIdeal.TwoRings.finalA_in m g c 1 (by decide)),
    (h.1 c (2 : Fin 4)).trans (Cert.KernelIdeal.TwoRings.finalA_in m g c 2 (by decide))⟩, h.2⟩) (Cert.KernelIdeal.TwoRings.run_main (F := Ideal) m g)

/-- and the reference. -/
theorem frame_ri : quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- Each name stands where its pattern stood. -/
theorem names : preserves_Kernel_KernelIdeal :=
  ⟨IdealRules.named_const.statement _ _ _ _ _ rfl, IdealRules.named_const.statement _ _ _ _ _ rfl, IdealRules.named_const.statement _ _ _ _ _ rfl⟩

/-- What the precondition's text takes at the kernel's shape, -/
theorem finite_facts : Cert.Pre_q_finite_KernelIdeal.Facts := ⟨by decide, by decide⟩

/-- and at the reference's. -/
theorem finite_facts_whole : Cert.Pre_q_finite_ReferenceIdeal.Facts := ⟨by decide, by decide⟩

/-- Where the magnitude is below infinity the number is real. -/
theorem real_of_lt (x : EReal) (h : Ideal.cmp .olt (max x (-x)) (Ideal.ofBits .f32 0x7F800000#32) = 1#1) : x = ((x.toReal : ℝ) : EReal) := by
  have ht : Ideal.ofBits .f32 0x7F800000#32 = ⊤ := by simp [Ideal.ofBits, Ideal.ieee]
  rw [ht] at h
  refine (EReal.coe_toReal ?_ ?_).symm
  · rintro rfl
    simp [Ideal.cmp] at h
  · rintro rfl
    simp [Ideal.cmp] at h

attribute [local instance] finite_facts in
/-- Under the precondition every query of the whole array is a real number. -/
theorem queries_real (m : (ℓ : Loc Cert.KernelIdeal.nD Cert.KernelIdeal.τ Cert.KernelIdeal.sig) → Buf (Elt Ideal) ℓ)
    (h : Pre_KernelIdeal_q_finite_KernelIdeal m) (q : Cert.ReferenceIdeal.S8192x128.Idx → EReal)
    (h₀ : ∀ c : Dev Cert.KernelIdeal.nD, m ((c.tc : Thread Cert.KernelIdeal.nD Cert.KernelIdeal.τ).loc Cert.KernelIdeal.main_arg0)
      = Layout.block ⟨2, ![1024, 128]⟩ ⟨2, ![8192, 128]⟩ 0 8 c q) (i : Cert.ReferenceIdeal.S8192x128.Idx) : q i = (((q i).toReal : ℝ) : EReal) := by
  have hi : (i 0).val < 8192 := (i 0).isLt
  let d : Fin 8 := ⟨(i 0).val / 1024, by omega⟩
  let j : Fin 1024 := ⟨(i 0).val % 1024, by omega⟩
  let t : Fin 128 := i 1
  have e : i = ix2 (Cert.Attention.row d j) t := by
    funext a
    match a with
    | ⟨0, _⟩ => exact Fin.ext (by show (i 0).val = (i 0).val / 1024 * 1024 + (i 0).val % 1024; omega)
    | ⟨1, _⟩ => rfl
  have hd : m ((Dev.tc (nD := Cert.KernelIdeal.nD) d : Thread Cert.KernelIdeal.nD Cert.KernelIdeal.τ).loc Cert.KernelIdeal.main_arg0) (ix2 j t) = q i := by
    rw [e, ← Cert.Attention.block_row d q j t]
    exact congrFun (h₀ d) (ix2 j t)
  rw [← hd]
  exact real_of_lt _ (congrFun (h d) (ix2 j t))

attribute [local instance] finite_facts in
/-- The kernel's result is the reference's, device by device. -/
theorem agree : algebraic_KernelIdeal_ReferenceIdeal_pre_q_finite_KernelIdeal := by
  intro m g m' g' hpre hm
  have hq := queries_real m hpre _ fun c => (hm c).1
  refine ⟨Cert.ReferenceIdeal.Value.res_main_v35 m' 0, ?_, ?_⟩
  · refine (θ_run Cert.KernelIdeal.defs _ _).mono (fun r h c => ⟨?_, ?_, ?_, ?_⟩) (Cert.KernelIdeal.TwoRings.run_main (F := Ideal) m g)
    · refine ((h.1 c (3 : Fin 4)).trans (Cert.KernelIdeal.TwoRings.finalA_out m g c)).trans (funext fun i => ?_)
      have e : i = ix2 (i 0 : Fin 1024) (i 1 : Fin 128) := funext fun a => match a with
        | ⟨0, _⟩ => rfl
        | ⟨1, _⟩ => rfl
      rw [e]
      refine (Cert.Attention.outAt_eq m g _ _ _ _ hq (fun c => (hm c).1) (fun c => (hm c).2.1) (fun c => (hm c).2.2) c (i 0) (i 1)).trans ?_
      refine (Cert.Attention.resR_eq _ _ _ _ hq (Cert.Attention.row c (i 0)) (i 1)).symm.trans ?_
      refine (Cert.ReferenceIdeal.Attention.result_apply m' 0 (Cert.Attention.row c (i 0)) (i 1)).symm.trans ?_
      exact (Cert.Attention.block_row c _ (i 0) (i 1)).symm
    · exact (h.1 c (0 : Fin 4)).trans (Cert.KernelIdeal.TwoRings.finalA_in m g c 0 (by decide))
    · exact (h.1 c (1 : Fin 4)).trans (Cert.KernelIdeal.TwoRings.finalA_in m g c 1 (by decide))
    · exact (h.1 c (2 : Fin 4)).trans (Cert.KernelIdeal.TwoRings.finalA_in m g c 2 (by decide))
  · exact (θ_run Cert.ReferenceIdeal.defs _ _).mono (fun r h => h 0) (Cert.ReferenceIdeal.Value.run (F := Ideal) m' g')

/-- Everything claimed. -/
theorem claim : Cert.Claim :=
  ⟨Cert.Kernel.Gen.facts, Cert.KernelIdeal.Gen.facts, Cert.ReferenceIdeal.Gen.facts, finite_facts, finite_facts_whole, frame_p, frame_pi,
    fun m g _ => frame_pi m g trivial, frame_ri, fun m g _ => frame_ri m g trivial, names, agree⟩

end Cert.Proof

end
